-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1x224x224 : Shape := ⟨4, ![2, 1, 224, 224]⟩
abbrev S2x32 : Shape := ⟨2, ![2, 32]⟩
abbrev S16x1x3x3 : Shape := ⟨4, ![16, 1, 3, 3]⟩
abbrev S16 : Shape := ⟨1, ![16]⟩
abbrev S16x16x3x3 : Shape := ⟨4, ![16, 16, 3, 3]⟩
abbrev S2x224x224 : Shape := ⟨3, ![2, 224, 224]⟩
abbrev S_ : Shape := ⟨0, ![]⟩
abbrev S2x227x256 : Shape := ⟨3, ![2, 227, 256]⟩
abbrev S2x1x58112 : Shape := ⟨3, ![2, 1, 58112]⟩
abbrev S16x9 : Shape := ⟨2, ![16, 9]⟩
abbrev S3x3x16x16 : Shape := ⟨4, ![3, 3, 16, 16]⟩
abbrev S9x16x16 : Shape := ⟨3, ![9, 16, 16]⟩
abbrev S2x1x32 : Shape := ⟨3, ![2, 1, 32]⟩
abbrev S1x16 : Shape := ⟨2, ![1, 16]⟩
abbrev S2x16x32x224x224 : Shape := ⟨5, ![2, 16, 32, 224, 224]⟩
abbrev S1x1x224x224 : Shape := ⟨4, ![1, 1, 224, 224]⟩
abbrev S1x1x58112 : Shape := ⟨3, ![1, 1, 58112]⟩
abbrev S1x1x32 : Shape := ⟨3, ![1, 1, 32]⟩
abbrev S1x16x2x224x224 : Shape := ⟨5, ![1, 16, 2, 224, 224]⟩
abbrev S16x224x224 : Shape := ⟨3, ![16, 224, 224]⟩
abbrev S224x224 : Shape := ⟨2, ![224, 224]⟩
abbrev S16x58112 : Shape := ⟨2, ![16, 58112]⟩
abbrev S1x58112 : Shape := ⟨2, ![1, 58112]⟩
abbrev S16x57344 : Shape := ⟨2, ![16, 57344]⟩
abbrev S1x57344 : Shape := ⟨2, ![1, 57344]⟩
abbrev S16x1 : Shape := ⟨2, ![16, 1]⟩
abbrev S16x257 : Shape := ⟨2, ![16, 257]⟩
abbrev S16x511 : Shape := ⟨2, ![16, 511]⟩
abbrev S1x16x16 : Shape := ⟨3, ![1, 16, 16]⟩
abbrev S16x16 : Shape := ⟨2, ![16, 16]⟩
abbrev S16x224x256 : Shape := ⟨3, ![16, 224, 256]⟩
abbrev S32 : Shape := ⟨1, ![32]⟩
abbrev S1 : Shape := ⟨1, ![1]⟩
abbrev S1x224x224 : Shape := ⟨3, ![1, 224, 224]⟩
abbrev S1x16x1x224x224 : Shape := ⟨5, ![1, 16, 1, 224, 224]⟩

abbrev nBuf : Space → Nat
  | .hbm => 18
  | .vmem => 15
  | .smem => 0
  | _ => 0

abbrev bufTy : (tb : Table) → Fin (tcTables nBuf tb) → BufTy
  | .hbm, ⟨0, _⟩ => ⟨S2x1x224x224, .f32⟩
  | .hbm, ⟨1, _⟩ => ⟨S2x32, .f32⟩
  | .hbm, ⟨2, _⟩ => ⟨S16x1x3x3, .f32⟩
  | .hbm, ⟨3, _⟩ => ⟨S16, .f32⟩
  | .hbm, ⟨4, _⟩ => ⟨S16x16x3x3, .f32⟩
  | .hbm, ⟨5, _⟩ => ⟨S16, .f32⟩
  | .hbm, ⟨6, _⟩ => ⟨S2x224x224, .f32⟩
  | .hbm, ⟨7, _⟩ => ⟨S_, .i32⟩
  | .hbm, ⟨8, _⟩ => ⟨S_, .f32⟩
  | .hbm, ⟨9, _⟩ => ⟨S2x227x256, .f32⟩
  | .hbm, ⟨10, _⟩ => ⟨S2x1x58112, .f32⟩
  | .hbm, ⟨11, _⟩ => ⟨S16x9, .f32⟩
  | .hbm, ⟨12, _⟩ => ⟨S3x3x16x16, .f32⟩
  | .hbm, ⟨13, _⟩ => ⟨S9x16x16, .f32⟩
  | .hbm, ⟨14, _⟩ => ⟨S2x1x32, .f32⟩
  | .hbm, ⟨15, _⟩ => ⟨S1x16, .f32⟩
  | .hbm, ⟨16, _⟩ => ⟨S1x16, .f32⟩
  | .hbm, ⟨17, _⟩ => ⟨S2x16x32x224x224, .f32⟩
  | .local _ .vmem, ⟨0, _⟩ => ⟨S1x1x224x224, .f32⟩
  | .local _ .vmem, ⟨1, _⟩ => ⟨S1x1x224x224, .f32⟩
  | .local _ .vmem, ⟨2, _⟩ => ⟨S1x1x58112, .f32⟩
  | .local _ .vmem, ⟨3, _⟩ => ⟨S1x1x58112, .f32⟩
  | .local _ .vmem, ⟨4, _⟩ => ⟨S1x1x32, .f32⟩
  | .local _ .vmem, ⟨5, _⟩ => ⟨S1x1x32, .f32⟩
  | .local _ .vmem, ⟨6, _⟩ => ⟨S16x9, .f32⟩
  | .local _ .vmem, ⟨7, _⟩ => ⟨S1x16, .f32⟩
  | .local _ .vmem, ⟨8, _⟩ => ⟨S9x16x16, .f32⟩
  | .local _ .vmem, ⟨9, _⟩ => ⟨S1x16, .f32⟩
  | .local _ .vmem, ⟨10, _⟩ => ⟨S1x16x2x224x224, .f32⟩
  | .local _ .vmem, ⟨11, _⟩ => ⟨S1x16x2x224x224, .f32⟩
  | .local _ .vmem, ⟨12, _⟩ => ⟨S16x224x224, .f32⟩
  | .local _ .vmem, ⟨13, _⟩ => ⟨S224x224, .i32⟩
  | .local _ .vmem, ⟨14, _⟩ => ⟨S16x58112, .f32⟩
  | _, _ => ⟨S2x1x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x58112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S9x16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x2x224x224 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x1x224x224 : Shape := ⟨4, ![2, 1, 224, 224]⟩
abbrev S2x32 : Shape := ⟨2, ![2, 32]⟩
abbrev S16x1x3x3 : Shape := ⟨4, ![16, 1, 3, 3]⟩
abbrev S16 : Shape := ⟨1, ![16]⟩
abbrev S16x16x3x3 : Shape := ⟨4, ![16, 16, 3, 3]⟩
abbrev S_ : Shape := ⟨0, ![]⟩
abbrev S2x1x226x226 : Shape := ⟨4, ![2, 1, 226, 226]⟩
abbrev S16x1x1x1 : Shape := ⟨4, ![16, 1, 1, 1]⟩
abbrev S16x1 : Shape := ⟨2, ![16, 1]⟩
abbrev S2x224x224x16 : Shape := ⟨4, ![2, 224, 224, 16]⟩
abbrev S2x16x224x224 : Shape := ⟨4, ![2, 16, 224, 224]⟩
abbrev S1x16x1x1 : Shape := ⟨4, ![1, 16, 1, 1]⟩
abbrev S2x16x226x226 : Shape := ⟨4, ![2, 16, 226, 226]⟩
abbrev S16x16x1x1 : Shape := ⟨4, ![16, 16, 1, 1]⟩
abbrev S16x16 : Shape := ⟨2, ![16, 16]⟩
abbrev S2x224x224 : Shape := ⟨3, ![2, 224, 224]⟩
abbrev S2x224x224x1 : Shape := ⟨4, ![2, 224, 224, 1]⟩
abbrev S2x1x1x32 : Shape := ⟨4, ![2, 1, 1, 32]⟩
abbrev S2x224x224x32 : Shape := ⟨4, ![2, 224, 224, 32]⟩
abbrev S2 : Shape := ⟨1, ![2]⟩
abbrev S2x1x1 : Shape := ⟨3, ![2, 1, 1]⟩
abbrev S224 : Shape := ⟨1, ![224]⟩
abbrev S1x224x1 : Shape := ⟨3, ![1, 224, 1]⟩
abbrev S1x1x224 : Shape := ⟨3, ![1, 1, 224]⟩
abbrev S2x32x224x224 : Shape := ⟨4, ![2, 32, 224, 224]⟩
abbrev S2x224x224x4 : Shape := ⟨4, ![2, 224, 224, 4]⟩
abbrev S2x16x1x224x224 : Shape := ⟨5, ![2, 16, 1, 224, 224]⟩
abbrev S2x1x32x224x224 : Shape := ⟨5, ![2, 1, 32, 224, 224]⟩
abbrev S2x16x32x224x224 : Shape := ⟨5, ![2, 16, 32, 224, 224]⟩

abbrev nBuf : Space → Nat
  | .hbm => 200
  | .vmem => 0
  | .smem => 0
  | _ => 0

abbrev hbmTy0_0 (i : Nat) : BufTy := match i % 128 with
  | 0 => ⟨S2x1x224x224, .f32⟩
  | 1 => ⟨S2x32, .f32⟩
  | 2 => ⟨S16x1x3x3, .f32⟩
  | 3 => ⟨S16, .f32⟩
  | 4 => ⟨S16x16x3x3, .f32⟩
  | 5 => ⟨S16, .f32⟩
  | 6 => ⟨S_, .i32⟩
  | 7 => ⟨S_, .f32⟩
  | 8 => ⟨S2x1x226x226, .f32⟩
  | 9 => ⟨S16x1x1x1, .f32⟩
  | 10 => ⟨S16x1, .f32⟩
  | 11 => ⟨S2x1x224x224, .f32⟩
  | 12 => ⟨S2x224x224x16, .f32⟩
  | 13 => ⟨S2x16x224x224, .f32⟩
  | 14 => ⟨S_, .f32⟩
  | 15 => ⟨S2x16x224x224, .f32⟩
  | 16 => ⟨S2x16x224x224, .f32⟩
  | 17 => ⟨S16x1x1x1, .f32⟩
  | 18 => ⟨S16x1, .f32⟩
  | 19 => ⟨S2x1x224x224, .f32⟩
  | 20 => ⟨S2x224x224x16, .f32⟩
  | 21 => ⟨S2x16x224x224, .f32⟩
  | 22 => ⟨S2x16x224x224, .f32⟩
  | 23 => ⟨S16x1x1x1, .f32⟩
  | 24 => ⟨S16x1, .f32⟩
  | 25 => ⟨S2x1x224x224, .f32⟩
  | 26 => ⟨S2x224x224x16, .f32⟩
  | 27 => ⟨S2x16x224x224, .f32⟩
  | 28 => ⟨S2x16x224x224, .f32⟩
  | 29 => ⟨S16x1x1x1, .f32⟩
  | 30 => ⟨S16x1, .f32⟩
  | 31 => ⟨S2x1x224x224, .f32⟩
  | 32 => ⟨S2x224x224x16, .f32⟩
  | 33 => ⟨S2x16x224x224, .f32⟩
  | 34 => ⟨S2x16x224x224, .f32⟩
  | 35 => ⟨S16x1x1x1, .f32⟩
  | 36 => ⟨S16x1, .f32⟩
  | 37 => ⟨S2x1x224x224, .f32⟩
  | 38 => ⟨S2x224x224x16, .f32⟩
  | 39 => ⟨S2x16x224x224, .f32⟩
  | 40 => ⟨S2x16x224x224, .f32⟩
  | 41 => ⟨S16x1x1x1, .f32⟩
  | 42 => ⟨S16x1, .f32⟩
  | 43 => ⟨S2x1x224x224, .f32⟩
  | 44 => ⟨S2x224x224x16, .f32⟩
  | 45 => ⟨S2x16x224x224, .f32⟩
  | 46 => ⟨S2x16x224x224, .f32⟩
  | 47 => ⟨S16x1x1x1, .f32⟩
  | 48 => ⟨S16x1, .f32⟩
  | 49 => ⟨S2x1x224x224, .f32⟩
  | 50 => ⟨S2x224x224x16, .f32⟩
  | 51 => ⟨S2x16x224x224, .f32⟩
  | 52 => ⟨S2x16x224x224, .f32⟩
  | 53 => ⟨S16x1x1x1, .f32⟩
  | 54 => ⟨S16x1, .f32⟩
  | 55 => ⟨S2x1x224x224, .f32⟩
  | 56 => ⟨S2x224x224x16, .f32⟩
  | 57 => ⟨S2x16x224x224, .f32⟩
  | 58 => ⟨S2x16x224x224, .f32⟩
  | 59 => ⟨S16x1x1x1, .f32⟩
  | 60 => ⟨S16x1, .f32⟩
  | 61 => ⟨S2x1x224x224, .f32⟩
  | 62 => ⟨S2x224x224x16, .f32⟩
  | 63 => ⟨S2x16x224x224, .f32⟩
  | 64 => ⟨S2x16x224x224, .f32⟩
  | 65 => ⟨S1x16x1x1, .f32⟩
  | 66 => ⟨S2x16x224x224, .f32⟩
  | 67 => ⟨S2x16x224x224, .f32⟩
  | 68 => ⟨S_, .f32⟩
  | 69 => ⟨S2x16x224x224, .f32⟩
  | 70 => ⟨S2x16x224x224, .f32⟩
  | 71 => ⟨S_, .i32⟩
  | 72 => ⟨S_, .f32⟩
  | 73 => ⟨S2x16x226x226, .f32⟩
  | 74 => ⟨S16x16x1x1, .f32⟩
  | 75 => ⟨S16x16, .f32⟩
  | 76 => ⟨S2x16x224x224, .f32⟩
  | 77 => ⟨S2x224x224x16, .f32⟩
  | 78 => ⟨S2x16x224x224, .f32⟩
  | 79 => ⟨S_, .f32⟩
  | 80 => ⟨S2x16x224x224, .f32⟩
  | 81 => ⟨S2x16x224x224, .f32⟩
  | 82 => ⟨S16x16x1x1, .f32⟩
  | 83 => ⟨S16x16, .f32⟩
  | 84 => ⟨S2x16x224x224, .f32⟩
  | 85 => ⟨S2x224x224x16, .f32⟩
  | 86 => ⟨S2x16x224x224, .f32⟩
  | 87 => ⟨S2x16x224x224, .f32⟩
  | 88 => ⟨S16x16x1x1, .f32⟩
  | 89 => ⟨S16x16, .f32⟩
  | 90 => ⟨S2x16x224x224, .f32⟩
  | 91 => ⟨S2x224x224x16, .f32⟩
  | 92 => ⟨S2x16x224x224, .f32⟩
  | 93 => ⟨S2x16x224x224, .f32⟩
  | 94 => ⟨S16x16x1x1, .f32⟩
  | 95 => ⟨S16x16, .f32⟩
  | 96 => ⟨S2x16x224x224, .f32⟩
  | 97 => ⟨S2x224x224x16, .f32⟩
  | 98 => ⟨S2x16x224x224, .f32⟩
  | 99 => ⟨S2x16x224x224, .f32⟩
  | 100 => ⟨S16x16x1x1, .f32⟩
  | 101 => ⟨S16x16, .f32⟩
  | 102 => ⟨S2x16x224x224, .f32⟩
  | 103 => ⟨S2x224x224x16, .f32⟩
  | 104 => ⟨S2x16x224x224, .f32⟩
  | 105 => ⟨S2x16x224x224, .f32⟩
  | 106 => ⟨S16x16x1x1, .f32⟩
  | 107 => ⟨S16x16, .f32⟩
  | 108 => ⟨S2x16x224x224, .f32⟩
  | 109 => ⟨S2x224x224x16, .f32⟩
  | 110 => ⟨S2x16x224x224, .f32⟩
  | 111 => ⟨S2x16x224x224, .f32⟩
  | 112 => ⟨S16x16x1x1, .f32⟩
  | 113 => ⟨S16x16, .f32⟩
  | 114 => ⟨S2x16x224x224, .f32⟩
  | 115 => ⟨S2x224x224x16, .f32⟩
  | 116 => ⟨S2x16x224x224, .f32⟩
  | 117 => ⟨S2x16x224x224, .f32⟩
  | 118 => ⟨S16x16x1x1, .f32⟩
  | 119 => ⟨S16x16, .f32⟩
  | 120 => ⟨S2x16x224x224, .f32⟩
  | 121 => ⟨S2x224x224x16, .f32⟩
  | 122 => ⟨S2x16x224x224, .f32⟩
  | 123 => ⟨S2x16x224x224, .f32⟩
  | 124 => ⟨S16x16x1x1, .f32⟩
  | 125 => ⟨S16x16, .f32⟩
  | 126 => ⟨S2x16x224x224, .f32⟩
  | 127 => ⟨S2x224x224x16, .f32⟩
  | _ => ⟨S2x1x224x224, .f32⟩

abbrev hbmTy0_1 (i : Nat) : BufTy := match i % 128 with
  | 0 => ⟨S2x16x224x224, .f32⟩
  | 1 => ⟨S2x16x224x224, .f32⟩
  | 2 => ⟨S1x16x1x1, .f32⟩
  | 3 => ⟨S2x16x224x224, .f32⟩
  | 4 => ⟨S2x16x224x224, .f32⟩
  | 5 => ⟨S_, .f32⟩
  | 6 => ⟨S2x16x224x224, .f32⟩
  | 7 => ⟨S2x16x224x224, .f32⟩
  | 8 => ⟨S2x224x224, .f32⟩
  | 9 => ⟨S2x224x224x1, .f32⟩
  | 10 => ⟨S2x1x1x32, .f32⟩
  | 11 => ⟨S2x224x224x32, .f32⟩
  | 12 => ⟨S2x224x224x32, .f32⟩
  | 13 => ⟨S2x224x224x32, .f32⟩
  | 14 => ⟨S2x224x224x32, .f32⟩
  | 15 => ⟨S2x224x224x32, .i32⟩
  | 16 => ⟨S_, .f32⟩
  | 17 => ⟨S_, .i32⟩
  | 18 => ⟨S2x224x224, .f32⟩
  | 19 => ⟨S2x224x224, .i32⟩
  | 20 => ⟨S2, .i32⟩
  | 21 => ⟨S2x1x1, .i32⟩
  | 22 => ⟨S224, .i32⟩
  | 23 => ⟨S1x224x1, .i32⟩
  | 24 => ⟨S224, .i32⟩
  | 25 => ⟨S1x1x224, .i32⟩
  | 26 => ⟨S_, .f32⟩
  | 27 => ⟨S2x32x224x224, .f32⟩
  | 28 => ⟨S_, .i32⟩
  | 29 => ⟨S2x1x1, .i32⟩
  | 30 => ⟨S2x1x1, .i1⟩
  | 31 => ⟨S_, .i32⟩
  | 32 => ⟨S2x1x1, .i32⟩
  | 33 => ⟨S2x1x1, .i32⟩
  | 34 => ⟨S2x1x1, .i32⟩
  | 35 => ⟨S_, .i32⟩
  | 36 => ⟨S2x224x224, .i32⟩
  | 37 => ⟨S2x224x224, .i1⟩
  | 38 => ⟨S_, .i32⟩
  | 39 => ⟨S2x224x224, .i32⟩
  | 40 => ⟨S2x224x224, .i32⟩
  | 41 => ⟨S2x224x224, .i32⟩
  | 42 => ⟨S_, .i32⟩
  | 43 => ⟨S1x224x1, .i32⟩
  | 44 => ⟨S1x224x1, .i1⟩
  | 45 => ⟨S_, .i32⟩
  | 46 => ⟨S1x224x1, .i32⟩
  | 47 => ⟨S1x224x1, .i32⟩
  | 48 => ⟨S1x224x1, .i32⟩
  | 49 => ⟨S_, .i32⟩
  | 50 => ⟨S1x1x224, .i32⟩
  | 51 => ⟨S1x1x224, .i1⟩
  | 52 => ⟨S_, .i32⟩
  | 53 => ⟨S1x1x224, .i32⟩
  | 54 => ⟨S1x1x224, .i32⟩
  | 55 => ⟨S1x1x224, .i32⟩
  | 56 => ⟨S2x224x224, .i32⟩
  | 57 => ⟨S2x224x224, .i32⟩
  | 58 => ⟨S2x224x224, .i32⟩
  | 59 => ⟨S2x224x224x1, .i32⟩
  | 60 => ⟨S2x224x224x1, .i32⟩
  | 61 => ⟨S2x224x224x1, .i32⟩
  | 62 => ⟨S2x224x224x1, .i32⟩
  | 63 => ⟨S2x224x224x4, .i32⟩
  | 64 => ⟨S_, .f32⟩
  | 65 => ⟨S2x224x224, .f32⟩
  | 66 => ⟨S2x32x224x224, .f32⟩
  | 67 => ⟨S2x16x1x224x224, .f32⟩
  | 68 => ⟨S2x1x32x224x224, .f32⟩
  | 69 => ⟨S2x16x32x224x224, .f32⟩
  | 70 => ⟨S2x16x32x224x224, .f32⟩
  | 71 => ⟨S2x16x32x224x224, .f32⟩
  | _ => ⟨S2x1x224x224, .f32⟩

abbrev hbmTy (i : Nat) : BufTy := match i / 128 with
  | 0 => hbmTy0_0 i
  | 1 => hbmTy0_1 i
  | _ => ⟨S2x1x224x224, .f32⟩

abbrev bufTy : (tb : Table) → Fin (tcTables nBuf tb) → BufTy
  | .hbm, ⟨i, _⟩ => hbmTy i
  | _, _ => ⟨S2x1x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_call1_cst : Ref sig .tc := ⟨.hbm, 68, rfl⟩
abbrev main_call1_v0 : Ref sig .tc := ⟨.hbm, 69, rfl⟩
abbrev main_v59 : Ref sig .tc := ⟨.hbm, 70, rfl⟩
abbrev main_c_0 : Ref sig .tc := ⟨.hbm, 71, rfl⟩
abbrev main_call2_v0 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_1 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_call3_cst : Ref sig .tc := ⟨.hbm, 133, rfl⟩
abbrev main_call3_v0 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_call4_v0 : Ref sig .tc := ⟨.hbm, 143, rfl⟩
abbrev main_call4_cst : Ref sig .tc := ⟨.hbm, 144, rfl⟩
abbrev main_call4_c : Ref sig .tc := ⟨.hbm, 145, rfl⟩
abbrev main_call4_v1_0 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_cst_2 : Ref sig .tc := ⟨.hbm, 154, rfl⟩
abbrev main_v134 : Ref sig .tc := ⟨.hbm, 155, rfl⟩
abbrev main_c_3 : Ref sig .tc := ⟨.hbm, 156, rfl⟩
abbrev main_v135 : Ref sig .tc := ⟨.hbm, 157, rfl⟩
abbrev main_v136 : Ref sig .tc := ⟨.hbm, 158, rfl⟩
abbrev main_c_4 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_c_5 : Ref sig .tc := ⟨.hbm, 163, rfl⟩
abbrev main_v140 : Ref sig .tc := ⟨.hbm, 164, rfl⟩
abbrev main_v141 : Ref sig .tc := ⟨.hbm, 165, rfl⟩
abbrev main_c_6 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_c_7 : Ref sig .tc := ⟨.hbm, 170, rfl⟩
abbrev main_v145 : Ref sig .tc := ⟨.hbm, 171, rfl⟩
abbrev main_v146 : Ref sig .tc := ⟨.hbm, 172, rfl⟩
abbrev main_c_8 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_c_9 : Ref sig .tc := ⟨.hbm, 177, rfl⟩
abbrev main_v150 : Ref sig .tc := ⟨.hbm, 178, rfl⟩
abbrev main_v151 : Ref sig .tc := ⟨.hbm, 179, rfl⟩
abbrev main_c_10 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_cst_11 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩

abbrev nD : Nat := 1
abbrev τ : Topo := Topo.v7x

variable {F : FTy → Type} [FloatOps F]
-- ==== Proof.RefOps.lean ====
module

public import proofs.«01_k».proof.Proof.Gen.ReferenceIdeal
public import Idealize.ShloMosaic.Lib.StableHlo.Run

/-! # The reference's operations, stage by stage

The reference is a straight line of array operations.  This module restates the line as nine lists, one per
stage of the mathematics, and shows that each of the program's four windows is the lists it runs, in order. -/

@[expose] public section

set_option maxRecDepth 16384
set_option maxHeartbeats 4000000

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F]

/-- The first convolution's nine taps, and its bias spread over the image. -/
abbrev opsConv1a : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S2x1x224x224, .f32⟩) main_arg0) (TRef.of (T := ⟨S_, .f32⟩) main_call0_v0) (TRef.of (T := ⟨S2x1x226x226, .f32⟩) main_v0) (fun x v => pad S2x1x226x226 ![0, 0, 1, 1] ![0, 0, 1, 1] ![0, 0, 0, 0] x v pads_S2x1x224x224_S2x1x226x226_000_000_110_110 h_S_),
    unary main_arg2 main_v1 ((extractStridedSlice S16x1x1x1 ![0, 0, 0, 0] · slices_S16x1x3x3_S16x1x1x1_0_0_0_0) : (⟨S16x1x3x3, .f32⟩ : BufTy).Contents (Elt F) → (⟨S16x1x1x1, .f32⟩ : BufTy).Contents (Elt F)),
    reshape main_v1 main_v2 (rfl : (.f32 : EltTy) = .f32) shapeCasts_S16x1x1x1_S16x1,
    unary main_v0 main_v3 ((extractStridedSlice S2x1x224x224 ![0, 0, 0, 0] · slices_S2x1x226x226_S2x1x224x224_0_0_0_0) : (⟨S2x1x226x226, .f32⟩ : BufTy).Contents (Elt F) → (⟨S2x1x224x224, .f32⟩ : BufTy).Contents (Elt F)),
    binary main_v3 main_v2 main_v4 ((fun l r => Host.dotGeneral dot_S2x1x224x224_S16x1_S2x224x224x16_1_1_023_0_n_n none l r) : (⟨S2x1x224x224, .f32⟩ : BufTy).Contents (Elt F) → (⟨S16x1, .f32⟩ : BufTy).Contents (Elt F) → (⟨S2x224x224x16, .f32⟩ : BufTy).Contents (Elt F)),
    unary main_v4 main_v5 ((transpose S2x16x224x224 [0, 3, 1, 2] · transposes_S2x224x224x16_S2x16x224x224_0_3_1_2) : (⟨S2x224x224x16, .f32⟩ : BufTy).Contents (Elt F) → (⟨S2x16x224x224, .f32⟩ : BufTy).Contents (Elt F)),
    nullary main_cst (constant S_ .f32 0x00000000#32),
    unary main_cst main_v6 (broadcastInDim S2x16x224x224 ![] bcast_S_S2x16x224x224 : (⟨S_, .f32⟩ : BufTy).Contents (Elt F) → (⟨S2x16x224x224, .f32⟩ : BufTy).Contents (Elt F)),
    binary main_v6 main_v5 main_v7 (addf : (⟨S2x16x224x224, .f32⟩ : BufTy).Contents (Elt F) → (⟨S2x16x224x224, .f32⟩ : BufTy).Contents (Elt F) → (⟨S2x16x224x224, .f32⟩ : BufTy).Contents (Elt F)),
    unary main_arg2 main_v8 ((extractStridedSlice S16x1x1x1 ![0, 0, 0, 1] · slices_S16x1x3x3_S16x1x1x1_0_0_0_1) : (⟨S16x1x3x3, .f32⟩ : BufTy).Contents (Elt F) → (⟨S16x1x1x1, .f32⟩ : BufTy).Contents (Elt F)),
    reshape main_v8 main_v9 (rfl : (.f32 : EltTy) = .f32) shapeCasts_S16x1x1x1_S16x1,
    unary main_v0 main_v10 ((extractStridedSlice S2x1x224x224 ![0, 0, 0, 1] · slices_S2x1x226x226_S2x1x224x224_0_0_0_1) : (⟨S2x1x226x226, .f32⟩ : BufTy).Contents (Elt F) → (⟨S2x1x224x224, .f32⟩ : BufTy).Contents (Elt F)),
    binary main_v10 main_v9 main_v11 ((fun l r => Host.dotGeneral dot_S2x1x224x224_S16x1_S2x224x224x16_1_1_023_0_n_n none l r) : (⟨S2x1x224x224, .f32⟩ : BufTy).Contents (Elt F) → (⟨S16x1, .f32⟩ : BufTy).Contents (Elt F) → (⟨S2x224x224x16, .f32⟩ : BufTy).Contents (Elt F)),
    unary main_v11 main_v12 ((transpose S2x16x224x224 [0, 3, 1, 2] · transposes_S2x224x224x16_S2x16x224x224_0_3_1_2) : (⟨S2x224x224x16, .f32⟩ : BufTy).Contents (Elt F) → (⟨S2x16x224x224, .f32⟩ : BufTy).Contents (Elt F)),
    binary main_v7 main_v12 main_v13 (addf : (⟨S2x16x224x224, .f32⟩ : BufTy).Contents (Elt F) → (⟨S2x16x224x224, .f32⟩ : BufTy).Contents (Elt F) → (⟨S2x16x224x224, .f32⟩ : BufTy).Contents (Elt F)),
    unary main_arg2 main_v14 ((extractStridedSlice S16x1x1x1 ![0, 0, 0, 2] · slices_S16x1x3x3_S16x1x1x1_0_0_0_2) : (⟨S16x1x3x3, .f32⟩ : BufTy).Contents (Elt F) → (⟨S16x1x1x1, .f32⟩ : BufTy).Contents (Elt F)),
    reshape main_v14 main_v15 (rfl : (.f32 : EltTy) = .f32) shapeCasts_S16x1x1x1_S16x1,
    unary main_v0 main_v16 ((extractStridedSlice S2x1x224x224 ![0, 0, 0, 2] · slices_S2x1x226x226_S2x1x224x224_0_0_0_2) : (⟨S2x1x226x226, .f32⟩ : BufTy).Contents (Elt F) → (⟨S2x1x224x224, .f32⟩ : BufTy).Contents (Elt F)),
    binary main_v16 main_v15 main_v17 ((fun l r => Host.dotGeneral dot_S2x1x224x224_S16x1_S2x224x224x16_1_1_023_0_n_n none l r) : (⟨S2x1x224x224, .f32⟩ : BufTy).Contents (Elt F) → (⟨S16x1, .f32⟩ : BufTy).Contents (Elt F) → (⟨S2x224x224x16, .f32⟩ : BufTy).Contents (Elt F)),
    unary main_v17 main_v18 ((transpose S2x16x224x224 [0, 3, 1, 2] · transposes_S2x224x224x16_S2x16x224x224_0_3_1_2) : (⟨S2x224x224x16, .f32⟩ : BufTy).Contents (Elt F) → (⟨S2x16x224x224, .f32⟩ : BufTy).Contents (Elt F)),
    binary main_v13 main_v18 main_v19 (addf : (⟨S2x16x224x224, .f32⟩ : BufTy).Contents (Elt F) → (⟨S2x16x224x224, .f32⟩ : BufTy).Contents (Elt F) → (⟨S2x16x224x224, .f32⟩ : BufTy).Contents (Elt F)),
    unary main_arg2 main_v20 ((extractStridedSlice S16x1x1x1 ![0, 0, 1, 0] · slices_S16x1x3x3_S16x1x1x1_0_0_1_0) : (⟨S16x1x3x3, .f32⟩ : BufTy).Contents (Elt F) → (⟨S16x1x1x1, .f32⟩ : BufTy).Contents (Elt F)),
    reshape main_v20 main_v21 (rfl : (.f32 : EltTy) = .f32) shapeCasts_S16x1x1x1_S16x1,
    unary main_v0 main_v22 ((extractStridedSlice S2x1x224x224 ![0, 0, 1, 0] · slices_S2x1x226x226_S2x1x224x224_0_0_1_0) : (⟨S2x1x226x226, .f32⟩ : BufTy).Contents (Elt F) → (⟨S2x1x224x224, .f32⟩ : BufTy).Contents (Elt F)),
    binary main_v22 main_v21 main_v23 ((fun l r => Host.dotGeneral dot_S2x1x224x224_S16x1_S2x224x224x16_1_1_023_0_n_n none l r) : (⟨S2x1x224x224, .f32⟩ : BufTy).Contents (Elt F) → (⟨S16x1, .f32⟩ : BufTy).Contents (Elt F) → (⟨S2x224x224x16, .f32⟩ : BufTy).Contents (Elt F)),
    unary main_v23 main_v24 ((transpose S2x16x224x224 [0, 3, 1, 2] · transposes_S2x224x224x16_S2x16x224x224_0_3_1_2) : (⟨S2x224x224x16, .f32⟩ : BufTy).Contents (Elt F) → (⟨S2x16x224x224, .f32⟩ : BufTy).Contents (Elt F)),
    binary main_v19 main_v24 main_v25 (addf : (⟨S2x16x224x224, .f32⟩ : BufTy).Contents (Elt F) → (⟨S2x16x224x224, .f32⟩ : BufTy).Contents (Elt F) → (⟨S2x16x224x224, .f32⟩ : BufTy).Contents (Elt F)),
    unary main_arg2 main_v26 ((extractStridedSlice S16x1x1x1 ![0, 0, 1, 1] · slices_S16x1x3x3_S16x1x1x1_0_0_1_1) : (⟨S16x1x3x3, .f32⟩ : BufTy).Contents (Elt F) → (⟨S16x1x1x1, .f32⟩ : BufTy).Contents (Elt F)),
    reshape main_v26 main_v27 (rfl : (.f32 : EltTy) = .f32) shapeCasts_S16x1x1x1_S16x1,
    unary main_v0 main_v28 ((extractStridedSlice S2x1x224x224 ![0, 0, 1, 1] · slices_S2x1x226x226_S2x1x224x224_0_0_1_1) : (⟨S2x1x226x226, .f32⟩ : BufTy).Contents (Elt F) → (⟨S2x1x224x224, .f32⟩ : BufTy).Contents (Elt F)),
    binary main_v28 main_v27 main_v29 ((fun l r => Host.dotGeneral dot_S2x1x224x224_S16x1_S2x224x224x16_1_1_023_0_n_n none l r) : (⟨S2x1x224x224, .f32⟩ : BufTy).Contents (Elt F) → (⟨S16x1, .f32⟩ : BufTy).Contents (Elt F) → (⟨S2x224x224x16, .f32⟩ : BufTy).Contents (Elt F)),
    unary main_v29 main_v30 ((transpose S2x16x224x224 [0, 3, 1, 2] · transposes_S2x224x224x16_S2x16x224x224_0_3_1_2) : (⟨S2x224x224x16, .f32⟩ : BufTy).Contents (Elt F) → (⟨S2x16x224x224, .f32⟩ : BufTy).Contents (Elt F)),
    binary main_v25 main_v30 main_v31 (addf : (⟨S2x16x224x224, .f32⟩ : BufTy).Contents (Elt F) → (⟨S2x16x224x224, .f32⟩ : BufTy).Contents (Elt F) → (⟨S2x16x224x224, .f32⟩ : BufTy).Contents (Elt F)),
    unary main_arg2 main_v32 ((extractStridedSlice S16x1x1x1 ![0, 0, 1, 2] · slices_S16x1x3x3_S16x1x1x1_0_0_1_2) : (⟨S16x1x3x3, .f32⟩ : BufTy).Contents (Elt F) → (⟨S16x1x1x1, .f32⟩ : BufTy).Contents (Elt F)),
    reshape main_v32 main_v33 (rfl : (.f32 : EltTy) = .f32) shapeCasts_S16x1x1x1_S16x1,
    unary main_v0 main_v34 ((extractStridedSlice S2x1x224x224 ![0, 0, 1, 2] · slices_S2x1x226x226_S2x1x224x224_0_0_1_2) : (⟨S2x1x226x226, .f32⟩ : BufTy).Contents (Elt F) → (⟨S2x1x224x224, .f32⟩ : BufTy).Contents (Elt F)),
    binary main_v34 main_v33 main_v35 ((fun l r => Host.dotGeneral dot_S2x1x224x224_S16x1_S2x224x224x16_1_1_023_0_n_n none l r) : (⟨S2x1x224x224, .f32⟩ : BufTy).Contents (Elt F) → (⟨S16x1, .f32⟩ : BufTy).Contents (Elt F) → (⟨S2x224x224x16, .f32⟩ : BufTy).Contents (Elt F)),
    unary main_v35 main_v36 ((transpose S2x16x224x224 [0, 3, 1, 2] · transposes_S2x224x224x16_S2x16x224x224_0_3_1_2) : (⟨S2x224x224x16, .f32⟩ : BufTy).Contents (Elt F) → (⟨S2x16x224x224, .f32⟩ : BufTy).Contents (Elt F)),
    binary main_v31 main_v36 main_v37 (addf : (⟨S2x16x224x224, .f32⟩ : BufTy).Contents (Elt F) → (⟨S2x16x224x224, .f32⟩ : BufTy).Contents (Elt F) → (⟨S2x16x224x224, .f32⟩ : BufTy).Contents (Elt F)),
    unary main_arg2 main_v38 ((extractStridedSlice S16x1x1x1 ![0, 0, 2, 0] · slices_S16x1x3x3_S16x1x1x1_0_0_2_0) : (⟨S16x1x3x3, .f32⟩ : BufTy).Contents (Elt F) → (⟨S16x1x1x1, .f32⟩ : BufTy).Contents (Elt F)),
    reshape main_v38 main_v39 (rfl : (.f32 : EltTy) = .f32) shapeCasts_S16x1x1x1_S16x1,
    unary main_v0 main_v40 ((extractStridedSlice S2x1x224x224 ![0, 0, 2, 0] · slices_S2x1x226x226_S2x1x224x224_0_0_2_0) : (⟨S2x1x226x226, .f32⟩ : BufTy).Contents (Elt F) → (⟨S2x1x224x224, .f32⟩ : BufTy).Contents (Elt F)),
    binary main_v40 main_v39 main_v41 ((fun l r => Host.dotGeneral dot_S2x1x224x224_S16x1_S2x224x224x16_1_1_023_0_n_n none l r) : (⟨S2x1x224x224, .f32⟩ : BufTy).Contents (Elt F) → (⟨S16x1, .f32⟩ : BufTy).Contents (Elt F) → (⟨S2x224x224x16, .f32⟩ : BufTy).Contents (Elt F)),
    unary main_v41 main_v42 ((transpose S2x16x224x224 [0, 3, 1, 2] · transposes_S2x224x224x16_S2x16x224x224_0_3_1_2) : (⟨S2x224x224x16, .f32⟩ : BufTy).Contents (Elt F) → (⟨S2x16x224x224, .f32⟩ : BufTy).Contents (Elt F)),
    binary main_v37 main_v42 main_v43 (addf : (⟨S2x16x224x224, .f32⟩ : BufTy).Contents (Elt F) → (⟨S2x16x224x224, .f32⟩ : BufTy).Contents (Elt F) → (⟨S2x16x224x224, .f32⟩ : BufTy).Contents (Elt F)),
    unary main_arg2 main_v44 ((extractStridedSlice S16x1x1x1 ![0, 0, 2, 1] · slices_S16x1x3x3_S16x1x1x1_0_0_2_1) : (⟨S16x1x3x3, .f32⟩ : BufTy).Contents (Elt F) → (⟨S16x1x1x1, .f32⟩ : BufTy).Contents (Elt F)),
    reshape main_v44 main_v45 (rfl : (.f32 : EltTy) = .f32) shapeCasts_S16x1x1x1_S16x1,
    unary main_v0 main_v46 ((extractStridedSlice S2x1x224x224 ![0, 0, 2, 1] · slices_S2x1x226x226_S2x1x224x224_0_0_2_1) : (⟨S2x1x226x226, .f32⟩ : BufTy).Contents (Elt F) → (⟨S2x1x224x224, .f32⟩ : BufTy).Contents (Elt F)),
    binary main_v46 main_v45 main_v47 ((fun l r => Host.dotGeneral dot_S2x1x224x224_S16x1_S2x224x224x16_1_1_023_0_n_n none l r) : (⟨S2x1x224x224, .f32⟩ : BufTy).Contents (Elt F) → (⟨S16x1, .f32⟩ : BufTy).Contents (Elt F) → (⟨S2x224x224x16, .f32⟩ : BufTy).Contents (Elt F)),
    unary main_v47 main_v48 ((transpose S2x16x224x224 [0, 3, 1, 2] · transposes_S2x224x224x16_S2x16x224x224_0_3_1_2) : (⟨S2x224x224x16, .f32⟩ : BufTy).Contents (Elt F) → (⟨S2x16x224x224, .f32⟩ : BufTy).Contents (Elt F)),
    binary main_v43 main_v48 main_v49 (addf : (⟨S2x16x224x224, .f32⟩ : BufTy).Contents (Elt F) → (⟨S2x16x224x224, .f32⟩ : BufTy).Contents (Elt F) → (⟨S2x16x224x224, .f32⟩ : BufTy).Contents (Elt F)),
    unary main_arg2 main_v50 ((extractStridedSlice S16x1x1x1 ![0, 0, 2, 2] · slices_S16x1x3x3_S16x1x1x1_0_0_2_2) : (⟨S16x1x3x3, .f32⟩ : BufTy).Contents (Elt F) → (⟨S16x1x1x1, .f32⟩ : BufTy).Contents (Elt F)),
    reshape main_v50 main_v51 (rfl : (.f32 : EltTy) = .f32) shapeCasts_S16x1x1x1_S16x1,
    unary main_v0 main_v52 ((extractStridedSlice S2x1x224x224 ![0, 0, 2, 2] · slices_S2x1x226x226_S2x1x224x224_0_0_2_2) : (⟨S2x1x226x226, .f32⟩ : BufTy).Contents (Elt F) → (⟨S2x1x224x224, .f32⟩ : BufTy).Contents (Elt F)),
    binary main_v52 main_v51 main_v53 ((fun l r => Host.dotGeneral dot_S2x1x224x224_S16x1_S2x224x224x16_1_1_023_0_n_n none l r) : (⟨S2x1x224x224, .f32⟩ : BufTy).Contents (Elt F) → (⟨S16x1, .f32⟩ : BufTy).Contents (Elt F) → (⟨S2x224x224x16, .f32⟩ : BufTy).Contents (Elt F)),
    unary main_v53 main_v54 ((transpose S2x16x224x224 [0, 3, 1, 2] · transposes_S2x224x224x16_S2x16x224x224_0_3_1_2) : (⟨S2x224x224x16, .f32⟩ : BufTy).Contents (Elt F) → (⟨S2x16x224x224, .f32⟩ : BufTy).Contents (Elt F)),
    binary main_v49 main_v54 main_v55 (addf : (⟨S2x16x224x224, .f32⟩ : BufTy).Contents (Elt F) → (⟨S2x16x224x224, .f32⟩ : BufTy).Contents (Elt F) → (⟨S2x16x224x224, .f32⟩ : BufTy).Contents (Elt F)),
    unary main_arg3 main_v56 (broadcastInDim S1x16x1x1 ![1] bcast_S16_S1x16x1x1_1 : (⟨S16, .f32⟩ : BufTy).Contents (Elt F) → (⟨S1x16x1x1, .f32⟩ : BufTy).Contents (Elt F)),
    unary main_v56 main_v57 (broadcastInDim S2x16x224x224 ![0, 1, 2, 3] bcast_S1x16x1x1_S2x16x224x224_0_1_2_3 : (⟨S1x16x1x1, .f32⟩ : BufTy).Contents (Elt F) → (⟨S2x16x224x224, .f32⟩ : BufTy).Contents (Elt F)) ]

/-- The bias added and the negative part cut away: the first feature map. -/
abbrev opsConv1b : List (HloOp τ sig (Elt F)) :=
  [ binary main_v55 main_v57 main_v58 (addf : (⟨S2x16x224x224, .f32⟩ : BufTy).Contents (Elt F) → (⟨S2x16x224x224, .f32⟩ : BufTy).Contents (Elt F) → (⟨S2x16x224x224, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S2x16x224x224, .f32⟩) main_call1_v0) (broadcastInDim S2x16x224x224 ![] bcast_S_S2x16x224x224),
    TRef.binary (TRef.of (T := ⟨S2x16x224x224, .f32⟩) main_v58) (TRef.of (T := ⟨S2x16x224x224, .f32⟩) main_call1_v0) (TRef.of (T := ⟨S2x16x224x224, .f32⟩) main_v59) maximumf ]

/-- The second convolution's nine taps. -/
abbrev opsConv2a : List (HloOp τ sig (Elt F)) :=
  [ nullary main_c_0 (constantI S_ 32 0#32),
    TRef.unary (TRef.of (T := ⟨S_, .i32⟩) main_c_0) (TRef.of (T := ⟨S_, .f32⟩) main_call2_v0) (sitofp .f32),
    TRef.binary (TRef.of (T := ⟨S2x16x224x224, .f32⟩) main_v59) (TRef.of (T := ⟨S_, .f32⟩) main_call2_v0) (TRef.of (T := ⟨S2x16x226x226, .f32⟩) main_v60) (fun x v => pad S2x16x226x226 ![0, 0, 1, 1] ![0, 0, 1, 1] ![0, 0, 0, 0] x v pads_S2x16x224x224_S2x16x226x226_000_000_110_110 h_S_),
    unary main_arg4 main_v61 ((extractStridedSlice S16x16x1x1 ![0, 0, 0, 0] · slices_S16x16x3x3_S16x16x1x1_0_0_0_0) : (⟨S16x16x3x3, .f32⟩ : BufTy).Contents (Elt F) → (⟨S16x16x1x1, .f32⟩ : BufTy).Contents (Elt F)),
    reshape main_v61 main_v62 (rfl : (.f32 : EltTy) = .f32) shapeCasts_S16x16x1x1_S16x16,
    unary main_v60 main_v63 ((extractStridedSlice S2x16x224x224 ![0, 0, 0, 0] · slices_S2x16x226x226_S2x16x224x224_0_0_0_0) : (⟨S2x16x226x226, .f32⟩ : BufTy).Contents (Elt F) → (⟨S2x16x224x224, .f32⟩ : BufTy).Contents (Elt F)),
    binary main_v63 main_v62 main_v64 ((fun l r => Host.dotGeneral dot_S2x16x224x224_S16x16_S2x224x224x16_1_1_023_0_n_n none l r) : (⟨S2x16x224x224, .f32⟩ : BufTy).Contents (Elt F) → (⟨S16x16, .f32⟩ : BufTy).Contents (Elt F) → (⟨S2x224x224x16, .f32⟩ : BufTy).Contents (Elt F)),
    unary main_v64 main_v65 ((transpose S2x16x224x224 [0, 3, 1, 2] · transposes_S2x224x224x16_S2x16x224x224_0_3_1_2) : (⟨S2x224x224x16, .f32⟩ : BufTy).Contents (Elt F) → (⟨S2x16x224x224, .f32⟩ : BufTy).Contents (Elt F)),
    nullary main_cst_1 (constant S_ .f32 0x00000000#32),
    unary main_cst_1 main_v66 (broadcastInDim S2x16x224x224 ![] bcast_S_S2x16x224x224 : (⟨S_, .f32⟩ : BufTy).Contents (Elt F) → (⟨S2x16x224x224, .f32⟩ : BufTy).Contents (Elt F)),
    binary main_v66 main_v65 main_v67 (addf : (⟨S2x16x224x224, .f32⟩ : BufTy).Contents (Elt F) → (⟨S2x16x224x224, .f32⟩ : BufTy).Contents (Elt F) → (⟨S2x16x224x224, .f32⟩ : BufTy).Contents (Elt F)),
    unary main_arg4 main_v68 ((extractStridedSlice S16x16x1x1 ![0, 0, 0, 1] · slices_S16x16x3x3_S16x16x1x1_0_0_0_1) : (⟨S16x16x3x3, .f32⟩ : BufTy).Contents (Elt F) → (⟨S16x16x1x1, .f32⟩ : BufTy).Contents (Elt F)),
    reshape main_v68 main_v69 (rfl : (.f32 : EltTy) = .f32) shapeCasts_S16x16x1x1_S16x16,
    unary main_v60 main_v70 ((extractStridedSlice S2x16x224x224 ![0, 0, 0, 1] · slices_S2x16x226x226_S2x16x224x224_0_0_0_1) : (⟨S2x16x226x226, .f32⟩ : BufTy).Contents (Elt F) → (⟨S2x16x224x224, .f32⟩ : BufTy).Contents (Elt F)),
    binary main_v70 main_v69 main_v71 ((fun l r => Host.dotGeneral dot_S2x16x224x224_S16x16_S2x224x224x16_1_1_023_0_n_n none l r) : (⟨S2x16x224x224, .f32⟩ : BufTy).Contents (Elt F) → (⟨S16x16, .f32⟩ : BufTy).Contents (Elt F) → (⟨S2x224x224x16, .f32⟩ : BufTy).Contents (Elt F)),
    unary main_v71 main_v72 ((transpose S2x16x224x224 [0, 3, 1, 2] · transposes_S2x224x224x16_S2x16x224x224_0_3_1_2) : (⟨S2x224x224x16, .f32⟩ : BufTy).Contents (Elt F) → (⟨S2x16x224x224, .f32⟩ : BufTy).Contents (Elt F)),
    binary main_v67 main_v72 main_v73 (addf : (⟨S2x16x224x224, .f32⟩ : BufTy).Contents (Elt F) → (⟨S2x16x224x224, .f32⟩ : BufTy).Contents (Elt F) → (⟨S2x16x224x224, .f32⟩ : BufTy).Contents (Elt F)),
    unary main_arg4 main_v74 ((extractStridedSlice S16x16x1x1 ![0, 0, 0, 2] · slices_S16x16x3x3_S16x16x1x1_0_0_0_2) : (⟨S16x16x3x3, .f32⟩ : BufTy).Contents (Elt F) → (⟨S16x16x1x1, .f32⟩ : BufTy).Contents (Elt F)),
    reshape main_v74 main_v75 (rfl : (.f32 : EltTy) = .f32) shapeCasts_S16x16x1x1_S16x16,
    unary main_v60 main_v76 ((extractStridedSlice S2x16x224x224 ![0, 0, 0, 2] · slices_S2x16x226x226_S2x16x224x224_0_0_0_2) : (⟨S2x16x226x226, .f32⟩ : BufTy).Contents (Elt F) → (⟨S2x16x224x224, .f32⟩ : BufTy).Contents (Elt F)),
    binary main_v76 main_v75 main_v77 ((fun l r => Host.dotGeneral dot_S2x16x224x224_S16x16_S2x224x224x16_1_1_023_0_n_n none l r) : (⟨S2x16x224x224, .f32⟩ : BufTy).Contents (Elt F) → (⟨S16x16, .f32⟩ : BufTy).Contents (Elt F) → (⟨S2x224x224x16, .f32⟩ : BufTy).Contents (Elt F)),
    unary main_v77 main_v78 ((transpose S2x16x224x224 [0, 3, 1, 2] · transposes_S2x224x224x16_S2x16x224x224_0_3_1_2) : (⟨S2x224x224x16, .f32⟩ : BufTy).Contents (Elt F) → (⟨S2x16x224x224, .f32⟩ : BufTy).Contents (Elt F)),
    binary main_v73 main_v78 main_v79 (addf : (⟨S2x16x224x224, .f32⟩ : BufTy).Contents (Elt F) → (⟨S2x16x224x224, .f32⟩ : BufTy).Contents (Elt F) → (⟨S2x16x224x224, .f32⟩ : BufTy).Contents (Elt F)),
    unary main_arg4 main_v80 ((extractStridedSlice S16x16x1x1 ![0, 0, 1, 0] · slices_S16x16x3x3_S16x16x1x1_0_0_1_0) : (⟨S16x16x3x3, .f32⟩ : BufTy).Contents (Elt F) → (⟨S16x16x1x1, .f32⟩ : BufTy).Contents (Elt F)),
    reshape main_v80 main_v81 (rfl : (.f32 : EltTy) = .f32) shapeCasts_S16x16x1x1_S16x16,
    unary main_v60 main_v82 ((extractStridedSlice S2x16x224x224 ![0, 0, 1, 0] · slices_S2x16x226x226_S2x16x224x224_0_0_1_0) : (⟨S2x16x226x226, .f32⟩ : BufTy).Contents (Elt F) → (⟨S2x16x224x224, .f32⟩ : BufTy).Contents (Elt F)),
    binary main_v82 main_v81 main_v83 ((fun l r => Host.dotGeneral dot_S2x16x224x224_S16x16_S2x224x224x16_1_1_023_0_n_n none l r) : (⟨S2x16x224x224, .f32⟩ : BufTy).Contents (Elt F) → (⟨S16x16, .f32⟩ : BufTy).Contents (Elt F) → (⟨S2x224x224x16, .f32⟩ : BufTy).Contents (Elt F)),
    unary main_v83 main_v84 ((transpose S2x16x224x224 [0, 3, 1, 2] · transposes_S2x224x224x16_S2x16x224x224_0_3_1_2) : (⟨S2x224x224x16, .f32⟩ : BufTy).Contents (Elt F) → (⟨S2x16x224x224, .f32⟩ : BufTy).Contents (Elt F)),
    binary main_v79 main_v84 main_v85 (addf : (⟨S2x16x224x224, .f32⟩ : BufTy).Contents (Elt F) → (⟨S2x16x224x224, .f32⟩ : BufTy).Contents (Elt F) → (⟨S2x16x224x224, .f32⟩ : BufTy).Contents (Elt F)),
    unary main_arg4 main_v86 ((extractStridedSlice S16x16x1x1 ![0, 0, 1, 1] · slices_S16x16x3x3_S16x16x1x1_0_0_1_1) : (⟨S16x16x3x3, .f32⟩ : BufTy).Contents (Elt F) → (⟨S16x16x1x1, .f32⟩ : BufTy).Contents (Elt F)),
    reshape main_v86 main_v87 (rfl : (.f32 : EltTy) = .f32) shapeCasts_S16x16x1x1_S16x16,
    unary main_v60 main_v88 ((extractStridedSlice S2x16x224x224 ![0, 0, 1, 1] · slices_S2x16x226x226_S2x16x224x224_0_0_1_1) : (⟨S2x16x226x226, .f32⟩ : BufTy).Contents (Elt F) → (⟨S2x16x224x224, .f32⟩ : BufTy).Contents (Elt F)),
    binary main_v88 main_v87 main_v89 ((fun l r => Host.dotGeneral dot_S2x16x224x224_S16x16_S2x224x224x16_1_1_023_0_n_n none l r) : (⟨S2x16x224x224, .f32⟩ : BufTy).Contents (Elt F) → (⟨S16x16, .f32⟩ : BufTy).Contents (Elt F) → (⟨S2x224x224x16, .f32⟩ : BufTy).Contents (Elt F)),
    unary main_v89 main_v90 ((transpose S2x16x224x224 [0, 3, 1, 2] · transposes_S2x224x224x16_S2x16x224x224_0_3_1_2) : (⟨S2x224x224x16, .f32⟩ : BufTy).Contents (Elt F) → (⟨S2x16x224x224, .f32⟩ : BufTy).Contents (Elt F)),
    binary main_v85 main_v90 main_v91 (addf : (⟨S2x16x224x224, .f32⟩ : BufTy).Contents (Elt F) → (⟨S2x16x224x224, .f32⟩ : BufTy).Contents (Elt F) → (⟨S2x16x224x224, .f32⟩ : BufTy).Contents (Elt F)),
    unary main_arg4 main_v92 ((extractStridedSlice S16x16x1x1 ![0, 0, 1, 2] · slices_S16x16x3x3_S16x16x1x1_0_0_1_2) : (⟨S16x16x3x3, .f32⟩ : BufTy).Contents (Elt F) → (⟨S16x16x1x1, .f32⟩ : BufTy).Contents (Elt F)),
    reshape main_v92 main_v93 (rfl : (.f32 : EltTy) = .f32) shapeCasts_S16x16x1x1_S16x16,
    unary main_v60 main_v94 ((extractStridedSlice S2x16x224x224 ![0, 0, 1, 2] · slices_S2x16x226x226_S2x16x224x224_0_0_1_2) : (⟨S2x16x226x226, .f32⟩ : BufTy).Contents (Elt F) → (⟨S2x16x224x224, .f32⟩ : BufTy).Contents (Elt F)),
    binary main_v94 main_v93 main_v95 ((fun l r => Host.dotGeneral dot_S2x16x224x224_S16x16_S2x224x224x16_1_1_023_0_n_n none l r) : (⟨S2x16x224x224, .f32⟩ : BufTy).Contents (Elt F) → (⟨S16x16, .f32⟩ : BufTy).Contents (Elt F) → (⟨S2x224x224x16, .f32⟩ : BufTy).Contents (Elt F)),
    unary main_v95 main_v96 ((transpose S2x16x224x224 [0, 3, 1, 2] · transposes_S2x224x224x16_S2x16x224x224_0_3_1_2) : (⟨S2x224x224x16, .f32⟩ : BufTy).Contents (Elt F) → (⟨S2x16x224x224, .f32⟩ : BufTy).Contents (Elt F)),
    binary main_v91 main_v96 main_v97 (addf : (⟨S2x16x224x224, .f32⟩ : BufTy).Contents (Elt F) → (⟨S2x16x224x224, .f32⟩ : BufTy).Contents (Elt F) → (⟨S2x16x224x224, .f32⟩ : BufTy).Contents (Elt F)),
    unary main_arg4 main_v98 ((extractStridedSlice S16x16x1x1 ![0, 0, 2, 0] · slices_S16x16x3x3_S16x16x1x1_0_0_2_0) : (⟨S16x16x3x3, .f32⟩ : BufTy).Contents (Elt F) → (⟨S16x16x1x1, .f32⟩ : BufTy).Contents (Elt F)),
    reshape main_v98 main_v99 (rfl : (.f32 : EltTy) = .f32) shapeCasts_S16x16x1x1_S16x16,
    unary main_v60 main_v100 ((extractStridedSlice S2x16x224x224 ![0, 0, 2, 0] · slices_S2x16x226x226_S2x16x224x224_0_0_2_0) : (⟨S2x16x226x226, .f32⟩ : BufTy).Contents (Elt F) → (⟨S2x16x224x224, .f32⟩ : BufTy).Contents (Elt F)),
    binary main_v100 main_v99 main_v101 ((fun l r => Host.dotGeneral dot_S2x16x224x224_S16x16_S2x224x224x16_1_1_023_0_n_n none l r) : (⟨S2x16x224x224, .f32⟩ : BufTy).Contents (Elt F) → (⟨S16x16, .f32⟩ : BufTy).Contents (Elt F) → (⟨S2x224x224x16, .f32⟩ : BufTy).Contents (Elt F)),
    unary main_v101 main_v102 ((transpose S2x16x224x224 [0, 3, 1, 2] · transposes_S2x224x224x16_S2x16x224x224_0_3_1_2) : (⟨S2x224x224x16, .f32⟩ : BufTy).Contents (Elt F) → (⟨S2x16x224x224, .f32⟩ : BufTy).Contents (Elt F)),
    binary main_v97 main_v102 main_v103 (addf : (⟨S2x16x224x224, .f32⟩ : BufTy).Contents (Elt F) → (⟨S2x16x224x224, .f32⟩ : BufTy).Contents (Elt F) → (⟨S2x16x224x224, .f32⟩ : BufTy).Contents (Elt F)),
    unary main_arg4 main_v104 ((extractStridedSlice S16x16x1x1 ![0, 0, 2, 1] · slices_S16x16x3x3_S16x16x1x1_0_0_2_1) : (⟨S16x16x3x3, .f32⟩ : BufTy).Contents (Elt F) → (⟨S16x16x1x1, .f32⟩ : BufTy).Contents (Elt F)),
    reshape main_v104 main_v105 (rfl : (.f32 : EltTy) = .f32) shapeCasts_S16x16x1x1_S16x16,
    unary main_v60 main_v106 ((extractStridedSlice S2x16x224x224 ![0, 0, 2, 1] · slices_S2x16x226x226_S2x16x224x224_0_0_2_1) : (⟨S2x16x226x226, .f32⟩ : BufTy).Contents (Elt F) → (⟨S2x16x224x224, .f32⟩ : BufTy).Contents (Elt F)),
    binary main_v106 main_v105 main_v107 ((fun l r => Host.dotGeneral dot_S2x16x224x224_S16x16_S2x224x224x16_1_1_023_0_n_n none l r) : (⟨S2x16x224x224, .f32⟩ : BufTy).Contents (Elt F) → (⟨S16x16, .f32⟩ : BufTy).Contents (Elt F) → (⟨S2x224x224x16, .f32⟩ : BufTy).Contents (Elt F)),
    unary main_v107 main_v108 ((transpose S2x16x224x224 [0, 3, 1, 2] · transposes_S2x224x224x16_S2x16x224x224_0_3_1_2) : (⟨S2x224x224x16, .f32⟩ : BufTy).Contents (Elt F) → (⟨S2x16x224x224, .f32⟩ : BufTy).Contents (Elt F)),
    binary main_v103 main_v108 main_v109 (addf : (⟨S2x16x224x224, .f32⟩ : BufTy).Contents (Elt F) → (⟨S2x16x224x224, .f32⟩ : BufTy).Contents (Elt F) → (⟨S2x16x224x224, .f32⟩ : BufTy).Contents (Elt F)),
    unary main_arg4 main_v110 ((extractStridedSlice S16x16x1x1 ![0, 0, 2, 2] · slices_S16x16x3x3_S16x16x1x1_0_0_2_2) : (⟨S16x16x3x3, .f32⟩ : BufTy).Contents (Elt F) → (⟨S16x16x1x1, .f32⟩ : BufTy).Contents (Elt F)),
    reshape main_v110 main_v111 (rfl : (.f32 : EltTy) = .f32) shapeCasts_S16x16x1x1_S16x16,
    unary main_v60 main_v112 ((extractStridedSlice S2x16x224x224 ![0, 0, 2, 2] · slices_S2x16x226x226_S2x16x224x224_0_0_2_2) : (⟨S2x16x226x226, .f32⟩ : BufTy).Contents (Elt F) → (⟨S2x16x224x224, .f32⟩ : BufTy).Contents (Elt F)),
    binary main_v112 main_v111 main_v113 ((fun l r => Host.dotGeneral dot_S2x16x224x224_S16x16_S2x224x224x16_1_1_023_0_n_n none l r) : (⟨S2x16x224x224, .f32⟩ : BufTy).Contents (Elt F) → (⟨S16x16, .f32⟩ : BufTy).Contents (Elt F) → (⟨S2x224x224x16, .f32⟩ : BufTy).Contents (Elt F)),
    unary main_v113 main_v114 ((transpose S2x16x224x224 [0, 3, 1, 2] · transposes_S2x224x224x16_S2x16x224x224_0_3_1_2) : (⟨S2x224x224x16, .f32⟩ : BufTy).Contents (Elt F) → (⟨S2x16x224x224, .f32⟩ : BufTy).Contents (Elt F)),
    binary main_v109 main_v114 main_v115 (addf : (⟨S2x16x224x224, .f32⟩ : BufTy).Contents (Elt F) → (⟨S2x16x224x224, .f32⟩ : BufTy).Contents (Elt F) → (⟨S2x16x224x224, .f32⟩ : BufTy).Contents (Elt F)) ]

/-- The bias added and the negative part cut away: the second feature map. -/
abbrev opsConv2b : List (HloOp τ sig (Elt F)) :=
  [ unary main_arg5 main_v116 (broadcastInDim S1x16x1x1 ![1] bcast_S16_S1x16x1x1_1 : (⟨S16, .f32⟩ : BufTy).Contents (Elt F) → (⟨S1x16x1x1, .f32⟩ : BufTy).Contents (Elt F)),
    unary main_v116 main_v117 (broadcastInDim S2x16x224x224 ![0, 1, 2, 3] bcast_S1x16x1x1_S2x16x224x224_0_1_2_3 : (⟨S1x16x1x1, .f32⟩ : BufTy).Contents (Elt F) → (⟨S2x16x224x224, .f32⟩ : BufTy).Contents (Elt F)),
    binary main_v115 main_v117 main_v118 (addf : (⟨S2x16x224x224, .f32⟩ : BufTy).Contents (Elt F) → (⟨S2x16x224x224, .f32⟩ : BufTy).Contents (Elt F) → (⟨S2x16x224x224, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S2x16x224x224, .f32⟩) main_call3_v0) (broadcastInDim S2x16x224x224 ![] bcast_S_S2x16x224x224),
    TRef.binary (TRef.of (T := ⟨S2x16x224x224, .f32⟩) main_v118) (TRef.of (T := ⟨S2x16x224x224, .f32⟩) main_call3_v0) (TRef.of (T := ⟨S2x16x224x224, .f32⟩) main_v119) maximumf ]

/-- The distance of every pixel to every hypothesis and the index of the least one. -/
abbrev opsNear : List (HloOp τ sig (Elt F)) :=
  [ reshape main_arg0 main_v120 (rfl : (.f32 : EltTy) = .f32) shapeCasts_S2x1x224x224_S2x224x224,
    unary main_v120 main_v121 (broadcastInDim S2x224x224x1 ![0, 1, 2] bcast_S2x224x224_S2x224x224x1_0_1_2 : (⟨S2x224x224, .f32⟩ : BufTy).Contents (Elt F) → (⟨S2x224x224x1, .f32⟩ : BufTy).Contents (Elt F)),
    unary main_arg1 main_v122 (broadcastInDim S2x1x1x32 ![0, 3] bcast_S2x32_S2x1x1x32_0_3 : (⟨S2x32, .f32⟩ : BufTy).Contents (Elt F) → (⟨S2x1x1x32, .f32⟩ : BufTy).Contents (Elt F)),
    unary main_v121 main_v123 (broadcastInDim S2x224x224x32 ![0, 1, 2, 3] bcast_S2x224x224x1_S2x224x224x32_0_1_2_3 : (⟨S2x224x224x1, .f32⟩ : BufTy).Contents (Elt F) → (⟨S2x224x224x32, .f32⟩ : BufTy).Contents (Elt F)),
    unary main_v122 main_v124 (broadcastInDim S2x224x224x32 ![0, 1, 2, 3] bcast_S2x1x1x32_S2x224x224x32_0_1_2_3 : (⟨S2x1x1x32, .f32⟩ : BufTy).Contents (Elt F) → (⟨S2x224x224x32, .f32⟩ : BufTy).Contents (Elt F)),
    binary main_v123 main_v124 main_v125 (subf : (⟨S2x224x224x32, .f32⟩ : BufTy).Contents (Elt F) → (⟨S2x224x224x32, .f32⟩ : BufTy).Contents (Elt F) → (⟨S2x224x224x32, .f32⟩ : BufTy).Contents (Elt F)),
    unary main_v125 main_v126 (Host.absf : (⟨S2x224x224x32, .f32⟩ : BufTy).Contents (Elt F) → (⟨S2x224x224x32, .f32⟩ : BufTy).Contents (Elt F)),
    TRef.nullary (TRef.of (T := ⟨S2x224x224x32, .i32⟩) main_call4_v0) (iotaInDim S2x224x224x32 32 3),
    TRef.nullary (TRef.of (T := ⟨S_, .f32⟩) main_call4_cst) (constant S_ .f32 0x7F800000#32),
    TRef.nullary (TRef.of (T := ⟨S_, .i32⟩) main_call4_c) (constantI S_ 32 0#32),
    TRef.quaternary (TRef.of (T := ⟨S2x224x224x32, .f32⟩) main_v126) (TRef.of (T := ⟨S2x224x224x32, .i32⟩) main_call4_v0) (TRef.of (T := ⟨S_, .f32⟩) main_call4_cst) (TRef.of (T := ⟨S_, .i32⟩) main_call4_c) (TRef.of (T := ⟨S2x224x224, .f32⟩) main_call4_v1_0) (fun x y u v j => (Host.argReduce reducer_argmin_f32_i32 x y u v reducesTo_S2x224x224x32_S2x224x224_d3 h_S_ j).1),
    TRef.quaternary (TRef.of (T := ⟨S2x224x224x32, .f32⟩) main_v126) (TRef.of (T := ⟨S2x224x224x32, .i32⟩) main_call4_v0) (TRef.of (T := ⟨S_, .f32⟩) main_call4_cst) (TRef.of (T := ⟨S_, .i32⟩) main_call4_c) (TRef.of (T := ⟨S2x224x224, .i32⟩) main_v127) (fun x y u v j => (Host.argReduce reducer_argmin_f32_i32 x y u v reducesTo_S2x224x224x32_S2x224x224_d3 h_S_ j).2) ]

/-- The four coordinates of every pixel's write. -/
abbrev opsCoord : List (HloOp τ sig (Elt F)) :=
  [ nullary main_v128 (iotaInDim S2 32 0),
    unary main_v128 main_v129 (broadcastInDim S2x1x1 ![0] bcast_S2_S2x1x1_0 : (⟨S2, .i32⟩ : BufTy).Contents (Elt F) → (⟨S2x1x1, .i32⟩ : BufTy).Contents (Elt F)),
    nullary main_v130 (iotaInDim S224 32 0),
    unary main_v130 main_v131 (broadcastInDim S1x224x1 ![1] bcast_S224_S1x224x1_1 : (⟨S224, .i32⟩ : BufTy).Contents (Elt F) → (⟨S1x224x1, .i32⟩ : BufTy).Contents (Elt F)),
    nullary main_v132 (iotaInDim S224 32 0),
    unary main_v132 main_v133 (broadcastInDim S1x1x224 ![2] bcast_S224_S1x1x224_2 : (⟨S224, .i32⟩ : BufTy).Contents (Elt F) → (⟨S1x1x224, .i32⟩ : BufTy).Contents (Elt F)),
    nullary main_cst_2 (constant S_ .f32 0x00000000#32),
    unary main_cst_2 main_v134 (broadcastInDim S2x32x224x224 ![] bcast_S_S2x32x224x224 : (⟨S_, .f32⟩ : BufTy).Contents (Elt F) → (⟨S2x32x224x224, .f32⟩ : BufTy).Contents (Elt F)),
    nullary main_c_3 (constantI S_ 32 0#32),
    unary main_c_3 main_v135 (broadcastInDim S2x1x1 ![] bcast_S_S2x1x1 : (⟨S_, .i32⟩ : BufTy).Contents (Elt F) → (⟨S2x1x1, .i32⟩ : BufTy).Contents (Elt F)),
    binary main_v129 main_v135 main_v136 (cmpi .slt : (⟨S2x1x1, .i32⟩ : BufTy).Contents (Elt F) → (⟨S2x1x1, .i32⟩ : BufTy).Contents (Elt F) → (⟨S2x1x1, .i1⟩ : BufTy).Contents (Elt F)),
    nullary main_c_4 (constantI S_ 32 2#32),
    unary main_c_4 main_v137 (broadcastInDim S2x1x1 ![] bcast_S_S2x1x1 : (⟨S_, .i32⟩ : BufTy).Contents (Elt F) → (⟨S2x1x1, .i32⟩ : BufTy).Contents (Elt F)),
    binary main_v129 main_v137 main_v138 (addi : (⟨S2x1x1, .i32⟩ : BufTy).Contents (Elt F) → (⟨S2x1x1, .i32⟩ : BufTy).Contents (Elt F) → (⟨S2x1x1, .i32⟩ : BufTy).Contents (Elt F)),
    ternary main_v136 main_v138 main_v129 main_v139 (select : (⟨S2x1x1, .i1⟩ : BufTy).Contents (Elt F) → (⟨S2x1x1, .i32⟩ : BufTy).Contents (Elt F) → (⟨S2x1x1, .i32⟩ : BufTy).Contents (Elt F) → (⟨S2x1x1, .i32⟩ : BufTy).Contents (Elt F)),
    nullary main_c_5 (constantI S_ 32 0#32),
    unary main_c_5 main_v140 (broadcastInDim S2x224x224 ![] bcast_S_S2x224x224 : (⟨S_, .i32⟩ : BufTy).Contents (Elt F) → (⟨S2x224x224, .i32⟩ : BufTy).Contents (Elt F)),
    binary main_v127 main_v140 main_v141 (cmpi .slt : (⟨S2x224x224, .i32⟩ : BufTy).Contents (Elt F) → (⟨S2x224x224, .i32⟩ : BufTy).Contents (Elt F) → (⟨S2x224x224, .i1⟩ : BufTy).Contents (Elt F)),
    nullary main_c_6 (constantI S_ 32 32#32),
    unary main_c_6 main_v142 (broadcastInDim S2x224x224 ![] bcast_S_S2x224x224 : (⟨S_, .i32⟩ : BufTy).Contents (Elt F) → (⟨S2x224x224, .i32⟩ : BufTy).Contents (Elt F)),
    binary main_v127 main_v142 main_v143 (addi : (⟨S2x224x224, .i32⟩ : BufTy).Contents (Elt F) → (⟨S2x224x224, .i32⟩ : BufTy).Contents (Elt F) → (⟨S2x224x224, .i32⟩ : BufTy).Contents (Elt F)),
    ternary main_v141 main_v143 main_v127 main_v144 (select : (⟨S2x224x224, .i1⟩ : BufTy).Contents (Elt F) → (⟨S2x224x224, .i32⟩ : BufTy).Contents (Elt F) → (⟨S2x224x224, .i32⟩ : BufTy).Contents (Elt F) → (⟨S2x224x224, .i32⟩ : BufTy).Contents (Elt F)),
    nullary main_c_7 (constantI S_ 32 0#32),
    unary main_c_7 main_v145 (broadcastInDim S1x224x1 ![] bcast_S_S1x224x1 : (⟨S_, .i32⟩ : BufTy).Contents (Elt F) → (⟨S1x224x1, .i32⟩ : BufTy).Contents (Elt F)),
    binary main_v131 main_v145 main_v146 (cmpi .slt : (⟨S1x224x1, .i32⟩ : BufTy).Contents (Elt F) → (⟨S1x224x1, .i32⟩ : BufTy).Contents (Elt F) → (⟨S1x224x1, .i1⟩ : BufTy).Contents (Elt F)),
    nullary main_c_8 (constantI S_ 32 224#32),
    unary main_c_8 main_v147 (broadcastInDim S1x224x1 ![] bcast_S_S1x224x1 : (⟨S_, .i32⟩ : BufTy).Contents (Elt F) → (⟨S1x224x1, .i32⟩ : BufTy).Contents (Elt F)),
    binary main_v131 main_v147 main_v148 (addi : (⟨S1x224x1, .i32⟩ : BufTy).Contents (Elt F) → (⟨S1x224x1, .i32⟩ : BufTy).Contents (Elt F) → (⟨S1x224x1, .i32⟩ : BufTy).Contents (Elt F)),
    ternary main_v146 main_v148 main_v131 main_v149 (select : (⟨S1x224x1, .i1⟩ : BufTy).Contents (Elt F) → (⟨S1x224x1, .i32⟩ : BufTy).Contents (Elt F) → (⟨S1x224x1, .i32⟩ : BufTy).Contents (Elt F) → (⟨S1x224x1, .i32⟩ : BufTy).Contents (Elt F)),
    nullary main_c_9 (constantI S_ 32 0#32),
    unary main_c_9 main_v150 (broadcastInDim S1x1x224 ![] bcast_S_S1x1x224 : (⟨S_, .i32⟩ : BufTy).Contents (Elt F) → (⟨S1x1x224, .i32⟩ : BufTy).Contents (Elt F)),
    binary main_v133 main_v150 main_v151 (cmpi .slt : (⟨S1x1x224, .i32⟩ : BufTy).Contents (Elt F) → (⟨S1x1x224, .i32⟩ : BufTy).Contents (Elt F) → (⟨S1x1x224, .i1⟩ : BufTy).Contents (Elt F)),
    nullary main_c_10 (constantI S_ 32 224#32),
    unary main_c_10 main_v152 (broadcastInDim S1x1x224 ![] bcast_S_S1x1x224 : (⟨S_, .i32⟩ : BufTy).Contents (Elt F) → (⟨S1x1x224, .i32⟩ : BufTy).Contents (Elt F)),
    binary main_v133 main_v152 main_v153 (addi : (⟨S1x1x224, .i32⟩ : BufTy).Contents (Elt F) → (⟨S1x1x224, .i32⟩ : BufTy).Contents (Elt F) → (⟨S1x1x224, .i32⟩ : BufTy).Contents (Elt F)),
    ternary main_v151 main_v153 main_v133 main_v154 (select : (⟨S1x1x224, .i1⟩ : BufTy).Contents (Elt F) → (⟨S1x1x224, .i32⟩ : BufTy).Contents (Elt F) → (⟨S1x1x224, .i32⟩ : BufTy).Contents (Elt F) → (⟨S1x1x224, .i32⟩ : BufTy).Contents (Elt F)),
    unary main_v139 main_v155 (broadcastInDim S2x224x224 ![0, 1, 2] bcast_S2x1x1_S2x224x224_0_1_2 : (⟨S2x1x1, .i32⟩ : BufTy).Contents (Elt F) → (⟨S2x224x224, .i32⟩ : BufTy).Contents (Elt F)),
    unary main_v149 main_v156 (broadcastInDim S2x224x224 ![0, 1, 2] bcast_S1x224x1_S2x224x224_0_1_2 : (⟨S1x224x1, .i32⟩ : BufTy).Contents (Elt F) → (⟨S2x224x224, .i32⟩ : BufTy).Contents (Elt F)),
    unary main_v154 main_v157 (broadcastInDim S2x224x224 ![0, 1, 2] bcast_S1x1x224_S2x224x224_0_1_2 : (⟨S1x1x224, .i32⟩ : BufTy).Contents (Elt F) → (⟨S2x224x224, .i32⟩ : BufTy).Contents (Elt F)),
    unary main_v155 main_v158 (broadcastInDim S2x224x224x1 ![0, 1, 2] bcast_S2x224x224_S2x224x224x1_0_1_2 : (⟨S2x224x224, .i32⟩ : BufTy).Contents (Elt F) → (⟨S2x224x224x1, .i32⟩ : BufTy).Contents (Elt F)),
    unary main_v144 main_v159 (broadcastInDim S2x224x224x1 ![0, 1, 2] bcast_S2x224x224_S2x224x224x1_0_1_2 : (⟨S2x224x224, .i32⟩ : BufTy).Contents (Elt F) → (⟨S2x224x224x1, .i32⟩ : BufTy).Contents (Elt F)),
    unary main_v156 main_v160 (broadcastInDim S2x224x224x1 ![0, 1, 2] bcast_S2x224x224_S2x224x224x1_0_1_2 : (⟨S2x224x224, .i32⟩ : BufTy).Contents (Elt F) → (⟨S2x224x224x1, .i32⟩ : BufTy).Contents (Elt F)),
    unary main_v157 main_v161 (broadcastInDim S2x224x224x1 ![0, 1, 2] bcast_S2x224x224_S2x224x224x1_0_1_2 : (⟨S2x224x224, .i32⟩ : BufTy).Contents (Elt F) → (⟨S2x224x224x1, .i32⟩ : BufTy).Contents (Elt F)) ]

/-- A one written at every pixel's chosen hypothesis. -/
abbrev opsHot : List (HloOp τ sig (Elt F)) :=
  [ nary ![main_v158, main_v159, main_v160, main_v161] main_v162 (fun u => (concatenate S2x224x224x4 3 [⟨S2x224x224x1, (u 0 : (⟨S2x224x224x1, .i32⟩ : BufTy).Contents (Elt F))⟩, ⟨S2x224x224x1, (u 1 : (⟨S2x224x224x1, .i32⟩ : BufTy).Contents (Elt F))⟩, ⟨S2x224x224x1, (u 2 : (⟨S2x224x224x1, .i32⟩ : BufTy).Contents (Elt F))⟩, ⟨S2x224x224x1, (u 3 : (⟨S2x224x224x1, .i32⟩ : BufTy).Contents (Elt F))⟩] concatenates_S2x224x224x1_S2x224x224x1_S2x224x224x1_S2x224x224x1_S2x224x224x4_d3 : (⟨S2x224x224x4, .i32⟩ : BufTy).Contents (Elt F))),
    nullary main_cst_11 (constant S_ .f32 0x3F800000#32),
    unary main_cst_11 main_v163 (broadcastInDim S2x224x224 ![] bcast_S_S2x224x224 : (⟨S_, .f32⟩ : BufTy).Contents (Elt F) → (⟨S2x224x224, .f32⟩ : BufTy).Contents (Elt F)),
    ternary main_v134 main_v162 main_v163 main_v164 ((fun x i u => Host.scatter scatter_S2x32x224x224_S2x224x224x4_S2x224x224_n_0123_0123_3 (fun _ b => b) x i u) : (⟨S2x32x224x224, .f32⟩ : BufTy).Contents (Elt F) → (⟨S2x224x224x4, .i32⟩ : BufTy).Contents (Elt F) → (⟨S2x224x224, .f32⟩ : BufTy).Contents (Elt F) → (⟨S2x32x224x224, .f32⟩ : BufTy).Contents (Elt F)) ]

/-- The feature map given a hypothesis axis. -/
abbrev opsSpread : List (HloOp τ sig (Elt F)) :=
  [ unary main_v119 main_v165 (broadcastInDim S2x16x1x224x224 ![0, 1, 3, 4] bcast_S2x16x224x224_S2x16x1x224x224_0_1_3_4 : (⟨S2x16x224x224, .f32⟩ : BufTy).Contents (Elt F) → (⟨S2x16x1x224x224, .f32⟩ : BufTy).Contents (Elt F)) ]

/-- The product of the feature map and the one-hot volume. -/
abbrev opsProd : List (HloOp τ sig (Elt F)) :=
  [ unary main_v164 main_v166 (broadcastInDim S2x1x32x224x224 ![0, 2, 3, 4] bcast_S2x32x224x224_S2x1x32x224x224_0_2_3_4 : (⟨S2x32x224x224, .f32⟩ : BufTy).Contents (Elt F) → (⟨S2x1x32x224x224, .f32⟩ : BufTy).Contents (Elt F)),
    unary main_v165 main_v167 (broadcastInDim S2x16x32x224x224 ![0, 1, 2, 3, 4] bcast_S2x16x1x224x224_S2x16x32x224x224_0_1_2_3_4 : (⟨S2x16x1x224x224, .f32⟩ : BufTy).Contents (Elt F) → (⟨S2x16x32x224x224, .f32⟩ : BufTy).Contents (Elt F)),
    unary main_v166 main_v168 (broadcastInDim S2x16x32x224x224 ![0, 1, 2, 3, 4] bcast_S2x1x32x224x224_S2x16x32x224x224_0_1_2_3_4 : (⟨S2x1x32x224x224, .f32⟩ : BufTy).Contents (Elt F) → (⟨S2x16x32x224x224, .f32⟩ : BufTy).Contents (Elt F)),
    binary main_v167 main_v168 main_v169 (mulf : (⟨S2x16x32x224x224, .f32⟩ : BufTy).Contents (Elt F) → (⟨S2x16x32x224x224, .f32⟩ : BufTy).Contents (Elt F) → (⟨S2x16x32x224x224, .f32⟩ : BufTy).Contents (Elt F)) ]

/-- The window runs its stages in order. -/
theorem main_part0_line (c : Dev nD) : main_part0 (F := F) c = seq (opsConv1a) := rfl

/-- The window runs its stages in order. -/
theorem main_part1_line (c : Dev nD) : main_part1 (F := F) c = seq (opsConv1b ++ opsConv2a) := rfl

/-- The window runs its stages in order. -/
theorem main_part2_line (c : Dev nD) : main_part2 (F := F) c = seq (opsConv2b ++ opsNear ++ opsCoord ++ opsHot ++ opsSpread) := rfl

/-- The window runs its stages in order. -/
theorem main_part3_line (c : Dev nD) : main_part3 (F := F) c = seq (opsProd) := rfl

/-- The whole line. -/
abbrev line : List (HloOp τ sig (Elt F)) :=
  opsConv1a ++ (opsConv1b ++ opsConv2a) ++ (opsConv2b ++ opsNear ++ opsCoord ++ opsHot ++ opsSpread) ++ opsProd

/-- The buffers this stage writes. -/
abbrev opsConv1aW : List (Ref sig .tc) :=
  [main_c, main_call0_v0, main_v0, main_v1, main_v2, main_v3, main_v4, main_v5, main_cst, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57]

theorem opsConv1a_writes : (opsConv1a : List (HloOp τ sig (Elt F))).Forall fun op =>
    op.writes ⊆ (opsConv1aW.map (Proc.devRef (τ := τ) .tc)).toFinset := forall_writes_sub_of_map rfl

theorem opsConv1a_fresh : (opsConv1a : List (HloOp τ sig (Elt F))).Forall fun op => op.fresh = ∅ := forall_fresh_of_map rfl

/-- The buffers this stage writes. -/
abbrev opsConv1bW : List (Ref sig .tc) :=
  [main_v58, main_call1_cst, main_call1_v0, main_v59]

theorem opsConv1b_writes : (opsConv1b : List (HloOp τ sig (Elt F))).Forall fun op =>
    op.writes ⊆ (opsConv1bW.map (Proc.devRef (τ := τ) .tc)).toFinset := forall_writes_sub_of_map rfl

theorem opsConv1b_fresh : (opsConv1b : List (HloOp τ sig (Elt F))).Forall fun op => op.fresh = ∅ := forall_fresh_of_map rfl

/-- The buffers this stage writes. -/
abbrev opsConv2aW : List (Ref sig .tc) :=
  [main_c_0, main_call2_v0, main_v60, main_v61, main_v62, main_v63, main_v64, main_v65, main_cst_1, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115]

theorem opsConv2a_writes : (opsConv2a : List (HloOp τ sig (Elt F))).Forall fun op =>
    op.writes ⊆ (opsConv2aW.map (Proc.devRef (τ := τ) .tc)).toFinset := forall_writes_sub_of_map rfl

theorem opsConv2a_fresh : (opsConv2a : List (HloOp τ sig (Elt F))).Forall fun op => op.fresh = ∅ := forall_fresh_of_map rfl

/-- The buffers this stage writes. -/
abbrev opsConv2bW : List (Ref sig .tc) :=
  [main_v116, main_v117, main_v118, main_call3_cst, main_call3_v0, main_v119]

theorem opsConv2b_writes : (opsConv2b : List (HloOp τ sig (Elt F))).Forall fun op =>
    op.writes ⊆ (opsConv2bW.map (Proc.devRef (τ := τ) .tc)).toFinset := forall_writes_sub_of_map rfl

theorem opsConv2b_fresh : (opsConv2b : List (HloOp τ sig (Elt F))).Forall fun op => op.fresh = ∅ := forall_fresh_of_map rfl

/-- The buffers this stage writes. -/
abbrev opsNearW : List (Ref sig .tc) :=
  [main_v120, main_v121, main_v122, main_v123, main_v124, main_v125, main_v126, main_call4_v0, main_call4_cst, main_call4_c, main_call4_v1_0, main_v127]

theorem opsNear_writes : (opsNear : List (HloOp τ sig (Elt F))).Forall fun op =>
    op.writes ⊆ (opsNearW.map (Proc.devRef (τ := τ) .tc)).toFinset := forall_writes_sub_of_map rfl

theorem opsNear_fresh : (opsNear : List (HloOp τ sig (Elt F))).Forall fun op => op.fresh = ∅ := forall_fresh_of_map rfl

/-- The buffers this stage writes. -/
abbrev opsCoordW : List (Ref sig .tc) :=
  [main_v128, main_v129, main_v130, main_v131, main_v132, main_v133, main_cst_2, main_v134, main_c_3, main_v135, main_v136, main_c_4, main_v137, main_v138, main_v139, main_c_5, main_v140, main_v141, main_c_6, main_v142, main_v143, main_v144, main_c_7, main_v145, main_v146, main_c_8, main_v147, main_v148, main_v149, main_c_9, main_v150, main_v151, main_c_10, main_v152, main_v153, main_v154, main_v155, main_v156, main_v157, main_v158, main_v159, main_v160, main_v161]

theorem opsCoord_writes : (opsCoord : List (HloOp τ sig (Elt F))).Forall fun op =>
    op.writes ⊆ (opsCoordW.map (Proc.devRef (τ := τ) .tc)).toFinset := forall_writes_sub_of_map rfl

theorem opsCoord_fresh : (opsCoord : List (HloOp τ sig (Elt F))).Forall fun op => op.fresh = ∅ := forall_fresh_of_map rfl

/-- The buffers this stage writes. -/
abbrev opsHotW : List (Ref sig .tc) :=
  [main_v162, main_cst_11, main_v163, main_v164]

theorem opsHot_writes : (opsHot : List (HloOp τ sig (Elt F))).Forall fun op =>
    op.writes ⊆ (opsHotW.map (Proc.devRef (τ := τ) .tc)).toFinset := forall_writes_sub_of_map rfl

theorem opsHot_fresh : (opsHot : List (HloOp τ sig (Elt F))).Forall fun op => op.fresh = ∅ := forall_fresh_of_map rfl

/-- The buffers this stage writes. -/
abbrev opsSpreadW : List (Ref sig .tc) :=
  [main_v165]

theorem opsSpread_writes : (opsSpread : List (HloOp τ sig (Elt F))).Forall fun op =>
    op.writes ⊆ (opsSpreadW.map (Proc.devRef (τ := τ) .tc)).toFinset := forall_writes_sub_of_map rfl

theorem opsSpread_fresh : (opsSpread : List (HloOp τ sig (Elt F))).Forall fun op => op.fresh = ∅ := forall_fresh_of_map rfl

/-- The buffers this stage writes. -/
abbrev opsProdW : List (Ref sig .tc) :=
  [main_v166, main_v167, main_v168, main_v169]

theorem opsProd_writes : (opsProd : List (HloOp τ sig (Elt F))).Forall fun op =>
    op.writes ⊆ (opsProdW.map (Proc.devRef (τ := τ) .tc)).toFinset := forall_writes_sub_of_map rfl

theorem opsProd_fresh : (opsProd : List (HloOp τ sig (Elt F))).Forall fun op => op.fresh = ∅ := forall_fresh_of_map rfl

theorem opsConv1a_bufs : (opsConv1a : List (HloOp τ sig (Elt F))).Forall fun op => op.bufs ⊆ tcRefs τ sig :=
  ⟨nullary_bufs_sub .., unary_bufs_sub .., binary_bufs_sub .., unary_bufs_sub .., reshape_bufs_sub .., unary_bufs_sub .., binary_bufs_sub .., unary_bufs_sub .., nullary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., unary_bufs_sub ..⟩

theorem opsConv1b_bufs : (opsConv1b : List (HloOp τ sig (Elt F))).Forall fun op => op.bufs ⊆ tcRefs τ sig :=
  ⟨binary_bufs_sub .., nullary_bufs_sub .., unary_bufs_sub .., binary_bufs_sub ..⟩

theorem opsConv2a_bufs : (opsConv2a : List (HloOp τ sig (Elt F))).Forall fun op => op.bufs ⊆ tcRefs τ sig :=
  ⟨nullary_bufs_sub .., unary_bufs_sub .., binary_bufs_sub .., unary_bufs_sub .., reshape_bufs_sub .., unary_bufs_sub .., binary_bufs_sub .., unary_bufs_sub .., nullary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub ..⟩

theorem opsConv2b_bufs : (opsConv2b : List (HloOp τ sig (Elt F))).Forall fun op => op.bufs ⊆ tcRefs τ sig :=
  ⟨unary_bufs_sub .., unary_bufs_sub .., binary_bufs_sub .., nullary_bufs_sub .., unary_bufs_sub .., binary_bufs_sub ..⟩

theorem opsNear_bufs : (opsNear : List (HloOp τ sig (Elt F))).Forall fun op => op.bufs ⊆ tcRefs τ sig :=
  ⟨reshape_bufs_sub .., unary_bufs_sub .., unary_bufs_sub .., unary_bufs_sub .., unary_bufs_sub .., binary_bufs_sub .., unary_bufs_sub .., nullary_bufs_sub .., nullary_bufs_sub .., nullary_bufs_sub .., quaternary_bufs_sub .., quaternary_bufs_sub ..⟩

theorem opsCoord_bufs : (opsCoord : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., unary_bufs_sub .., unary_bufs_sub ..⟩

theorem opsHot_bufs : (opsHot : List (HloOp τ sig (Elt F))).Forall fun op => op.bufs ⊆ tcRefs τ sig :=
  ⟨nary_bufs_sub .., nullary_bufs_sub .., unary_bufs_sub .., ternary_bufs_sub ..⟩

theorem opsSpread_bufs : (opsSpread : List (HloOp τ sig (Elt F))).Forall fun op => op.bufs ⊆ tcRefs τ sig :=
  unary_bufs_sub ..

theorem opsProd_bufs : (opsProd : List (HloOp τ sig (Elt F))).Forall fun op => op.bufs ⊆ tcRefs τ sig :=
  ⟨unary_bufs_sub .., unary_bufs_sub .., unary_bufs_sub .., binary_bufs_sub ..⟩

end Cert.ReferenceIdeal.Line
-- ==== Proof.RefVals.lean ====
module

public import proofs.«01_k».proof.Proof.RefOps

/-! # What the reference's stages compute

Each stage of the reference as one function of the arrays it reads, over any float values. -/

@[expose] public section

set_option maxRecDepth 16384

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F]

/-- Arrays of floats of a shape. -/
abbrev Fl (F : FTy → Type) (s : Shape) : Type := s.Idx → F .f32

/-- Arrays of 32-bit integers of a shape. -/
abbrev Ints (s : Shape) : Type := s.Idx → BitVec 32

/-- The depth map inside a margin of zeros, one pixel wide. -/
def margin1 (x : Fl F S2x1x224x224) : Fl F S2x1x226x226 :=
  pad S2x1x226x226 ![0, 0, 1, 1] ![0, 0, 1, 1] ![0, 0, 0, 0] x (sitofp .f32 (constantI S_ 32 0#32))
    pads_S2x1x224x224_S2x1x226x226_000_000_110_110 h_S_

/-- The first feature map inside a margin of zeros, one pixel wide. -/
def margin2 (x : Fl F S2x16x224x224) : Fl F S2x16x226x226 :=
  pad S2x16x226x226 ![0, 0, 1, 1] ![0, 0, 1, 1] ![0, 0, 0, 0] x (sitofp .f32 (constantI S_ 32 0#32))
    pads_S2x16x224x224_S2x16x226x226_000_000_110_110 h_S_

/-- One tap of the first convolution: the shifted window times the weights at that shift. -/
def tap1 (o : Fin 4 → ℕ) (hx : S2x1x226x226.Slices o S2x1x224x224) (hw : S16x1x3x3.Slices o S16x1x1x1)
    (xp : Fl F S2x1x226x226) (w : Fl F S16x1x3x3) : Fl F S2x16x224x224 :=
  transpose S2x16x224x224 [0, 3, 1, 2]
    (Host.dotGeneral dot_S2x1x224x224_S16x1_S2x224x224x16_1_1_023_0_n_n none
      (extractStridedSlice S2x1x224x224 o xp hx)
      (shapeCast S16x1 (extractStridedSlice S16x1x1x1 o w hw) shapeCasts_S16x1x1x1_S16x1))
    transposes_S2x224x224x16_S2x16x224x224_0_3_1_2

/-- One tap of the second convolution: the shifted windows times the weights at that shift, summed over the
    input channels. -/
def tap2 (o : Fin 4 → ℕ) (hx : S2x16x226x226.Slices o S2x16x224x224) (hw : S16x16x3x3.Slices o S16x16x1x1)
    (xp : Fl F S2x16x226x226) (w : Fl F S16x16x3x3) : Fl F S2x16x224x224 :=
  transpose S2x16x224x224 [0, 3, 1, 2]
    (Host.dotGeneral dot_S2x16x224x224_S16x16_S2x224x224x16_1_1_023_0_n_n none
      (extractStridedSlice S2x16x224x224 o xp hx)
      (shapeCast S16x16 (extractStridedSlice S16x16x1x1 o w hw) shapeCasts_S16x16x1x1_S16x16))
    transposes_S2x224x224x16_S2x16x224x224_0_3_1_2

/-- The bias added to every pixel of its channel, and the negative part cut away. -/
def biasRelu (y : Fl F S2x16x224x224) (b : Fl F S16) : Fl F S2x16x224x224 :=
  maximumf (addf y (broadcastInDim S2x16x224x224 ![0, 1, 2, 3] bcast_S1x16x1x1_S2x16x224x224_0_1_2_3
      (broadcastInDim S1x16x1x1 ![1] bcast_S16_S1x16x1x1_1 b)))
    (broadcastInDim S2x16x224x224 ![] bcast_S_S2x16x224x224 (constant S_ .f32 0x00000000#32))

/-- The first convolution's nine taps, summed. -/
def sum1 (x : Fl F S2x1x224x224) (w : Fl F S16x1x3x3) : Fl F S2x16x224x224 :=
  addf (addf (addf (addf (addf (addf (addf (addf (addf (broadcastInDim S2x16x224x224 ![] bcast_S_S2x16x224x224 (constant S_ .f32 0x00000000#32))
      (tap1 ![0, 0, 0, 0] slices_S2x1x226x226_S2x1x224x224_0_0_0_0 slices_S16x1x3x3_S16x1x1x1_0_0_0_0 (margin1 x) w))
      (tap1 ![0, 0, 0, 1] slices_S2x1x226x226_S2x1x224x224_0_0_0_1 slices_S16x1x3x3_S16x1x1x1_0_0_0_1 (margin1 x) w))
      (tap1 ![0, 0, 0, 2] slices_S2x1x226x226_S2x1x224x224_0_0_0_2 slices_S16x1x3x3_S16x1x1x1_0_0_0_2 (margin1 x) w))
      (tap1 ![0, 0, 1, 0] slices_S2x1x226x226_S2x1x224x224_0_0_1_0 slices_S16x1x3x3_S16x1x1x1_0_0_1_0 (margin1 x) w))
      (tap1 ![0, 0, 1, 1] slices_S2x1x226x226_S2x1x224x224_0_0_1_1 slices_S16x1x3x3_S16x1x1x1_0_0_1_1 (margin1 x) w))
      (tap1 ![0, 0, 1, 2] slices_S2x1x226x226_S2x1x224x224_0_0_1_2 slices_S16x1x3x3_S16x1x1x1_0_0_1_2 (margin1 x) w))
      (tap1 ![0, 0, 2, 0] slices_S2x1x226x226_S2x1x224x224_0_0_2_0 slices_S16x1x3x3_S16x1x1x1_0_0_2_0 (margin1 x) w))
      (tap1 ![0, 0, 2, 1] slices_S2x1x226x226_S2x1x224x224_0_0_2_1 slices_S16x1x3x3_S16x1x1x1_0_0_2_1 (margin1 x) w))
      (tap1 ![0, 0, 2, 2] slices_S2x1x226x226_S2x1x224x224_0_0_2_2 slices_S16x1x3x3_S16x1x1x1_0_0_2_2 (margin1 x) w)

/-- The second convolution's nine taps, summed. -/
def sum2 (x : Fl F S2x16x224x224) (w : Fl F S16x16x3x3) : Fl F S2x16x224x224 :=
  addf (addf (addf (addf (addf (addf (addf (addf (addf (broadcastInDim S2x16x224x224 ![] bcast_S_S2x16x224x224 (constant S_ .f32 0x00000000#32))
      (tap2 ![0, 0, 0, 0] slices_S2x16x226x226_S2x16x224x224_0_0_0_0 slices_S16x16x3x3_S16x16x1x1_0_0_0_0 (margin2 x) w))
      (tap2 ![0, 0, 0, 1] slices_S2x16x226x226_S2x16x224x224_0_0_0_1 slices_S16x16x3x3_S16x16x1x1_0_0_0_1 (margin2 x) w))
      (tap2 ![0, 0, 0, 2] slices_S2x16x226x226_S2x16x224x224_0_0_0_2 slices_S16x16x3x3_S16x16x1x1_0_0_0_2 (margin2 x) w))
      (tap2 ![0, 0, 1, 0] slices_S2x16x226x226_S2x16x224x224_0_0_1_0 slices_S16x16x3x3_S16x16x1x1_0_0_1_0 (margin2 x) w))
      (tap2 ![0, 0, 1, 1] slices_S2x16x226x226_S2x16x224x224_0_0_1_1 slices_S16x16x3x3_S16x16x1x1_0_0_1_1 (margin2 x) w))
      (tap2 ![0, 0, 1, 2] slices_S2x16x226x226_S2x16x224x224_0_0_1_2 slices_S16x16x3x3_S16x16x1x1_0_0_1_2 (margin2 x) w))
      (tap2 ![0, 0, 2, 0] slices_S2x16x226x226_S2x16x224x224_0_0_2_0 slices_S16x16x3x3_S16x16x1x1_0_0_2_0 (margin2 x) w))
      (tap2 ![0, 0, 2, 1] slices_S2x16x226x226_S2x16x224x224_0_0_2_1 slices_S16x16x3x3_S16x16x1x1_0_0_2_1 (margin2 x) w))
      (tap2 ![0, 0, 2, 2] slices_S2x16x226x226_S2x16x224x224_0_0_2_2 slices_S16x16x3x3_S16x16x1x1_0_0_2_2 (margin2 x) w)

/-- The distance of every pixel's depth to every hypothesis. -/
def distances (x : Fl F S2x1x224x224) (h : Fl F S2x32) : Fl F S2x224x224x32 :=
  Host.absf (subf
    (broadcastInDim S2x224x224x32 ![0, 1, 2, 3] bcast_S2x224x224x1_S2x224x224x32_0_1_2_3
      (broadcastInDim S2x224x224x1 ![0, 1, 2] bcast_S2x224x224_S2x224x224x1_0_1_2
        (shapeCast S2x224x224 x shapeCasts_S2x1x224x224_S2x224x224)))
    (broadcastInDim S2x224x224x32 ![0, 1, 2, 3] bcast_S2x1x1x32_S2x224x224x32_0_1_2_3
      (broadcastInDim S2x1x1x32 ![0, 3] bcast_S2x32_S2x1x1x32_0_3 h)))

/-- The index of every pixel's least distance. -/
def nearest (x : Fl F S2x1x224x224) (h : Fl F S2x32) : Ints S2x224x224 := fun j =>
  (Host.argReduce reducer_argmin_f32_i32 (distances x h) (iotaInDim S2x224x224x32 32 3)
    (constant S_ .f32 0x7F800000#32) (constantI S_ 32 0#32) reducesTo_S2x224x224x32_S2x224x224_d3 h_S_ j).2

/-- The index column of the batch coordinate. -/
def colBatch : Ints S2x224x224x1 :=
  broadcastInDim S2x224x224x1 ![0, 1, 2] bcast_S2x224x224_S2x224x224x1_0_1_2
    (broadcastInDim S2x224x224 ![0, 1, 2] bcast_S2x1x1_S2x224x224_0_1_2
      (select
        (cmpi .slt (broadcastInDim S2x1x1 ![0] bcast_S2_S2x1x1_0 (iotaInDim S2 32 0))
          (broadcastInDim S2x1x1 ![] bcast_S_S2x1x1 (constantI S_ 32 0#32)))
        (addi (broadcastInDim S2x1x1 ![0] bcast_S2_S2x1x1_0 (iotaInDim S2 32 0))
          (broadcastInDim S2x1x1 ![] bcast_S_S2x1x1 (constantI S_ 32 2#32)))
        (broadcastInDim S2x1x1 ![0] bcast_S2_S2x1x1_0 (iotaInDim S2 32 0))))

/-- The index column of the chosen hypothesis. -/
def colHyp (i : Ints S2x224x224) : Ints S2x224x224x1 :=
  broadcastInDim S2x224x224x1 ![0, 1, 2] bcast_S2x224x224_S2x224x224x1_0_1_2
    (select (cmpi .slt i (broadcastInDim S2x224x224 ![] bcast_S_S2x224x224 (constantI S_ 32 0#32)))
      (addi i (broadcastInDim S2x224x224 ![] bcast_S_S2x224x224 (constantI S_ 32 32#32))) i)

/-- The index column of the row coordinate. -/
def colRow : Ints S2x224x224x1 :=
  broadcastInDim S2x224x224x1 ![0, 1, 2] bcast_S2x224x224_S2x224x224x1_0_1_2
    (broadcastInDim S2x224x224 ![0, 1, 2] bcast_S1x224x1_S2x224x224_0_1_2
      (select
        (cmpi .slt (broadcastInDim S1x224x1 ![1] bcast_S224_S1x224x1_1 (iotaInDim S224 32 0))
          (broadcastInDim S1x224x1 ![] bcast_S_S1x224x1 (constantI S_ 32 0#32)))
        (addi (broadcastInDim S1x224x1 ![1] bcast_S224_S1x224x1_1 (iotaInDim S224 32 0))
          (broadcastInDim S1x224x1 ![] bcast_S_S1x224x1 (constantI S_ 32 224#32)))
        (broadcastInDim S1x224x1 ![1] bcast_S224_S1x224x1_1 (iotaInDim S224 32 0))))

/-- The index column of the column coordinate. -/
def colCol : Ints S2x224x224x1 :=
  broadcastInDim S2x224x224x1 ![0, 1, 2] bcast_S2x224x224_S2x224x224x1_0_1_2
    (broadcastInDim S2x224x224 ![0, 1, 2] bcast_S1x1x224_S2x224x224_0_1_2
      (select
        (cmpi .slt (broadcastInDim S1x1x224 ![2] bcast_S224_S1x1x224_2 (iotaInDim S224 32 0))
          (broadcastInDim S1x1x224 ![] bcast_S_S1x1x224 (constantI S_ 32 0#32)))
        (addi (broadcastInDim S1x1x224 ![2] bcast_S224_S1x1x224_2 (iotaInDim S224 32 0))
          (broadcastInDim S1x1x224 ![] bcast_S_S1x1x224 (constantI S_ 32 224#32)))
        (broadcastInDim S1x1x224 ![2] bcast_S224_S1x1x224_2 (iotaInDim S224 32 0))))

/-- Ones written into a volume at the positions four index columns give. -/
def writeOnes (z : Fl F S2x32x224x224) (b d r k : Ints S2x224x224x1) : Fl F S2x32x224x224 :=
  Host.scatter scatter_S2x32x224x224_S2x224x224x4_S2x224x224_n_0123_0123_3 (fun _ b => b) z
    (concatenate S2x224x224x4 3 [⟨S2x224x224x1, b⟩, ⟨S2x224x224x1, d⟩, ⟨S2x224x224x1, r⟩, ⟨S2x224x224x1, k⟩]
      concatenates_S2x224x224x1_S2x224x224x1_S2x224x224x1_S2x224x224x1_S2x224x224x4_d3)
    (broadcastInDim S2x224x224 ![] bcast_S_S2x224x224 (constant S_ .f32 0x3F800000#32))

/-- The one-hot volume of an index map. -/
def oneHot (i : Ints S2x224x224) : Fl F S2x32x224x224 :=
  writeOnes (broadcastInDim S2x32x224x224 ![] bcast_S_S2x32x224x224 (constant S_ .f32 0x00000000#32))
    colBatch (colHyp i) colRow colCol

/-- A feature map times a one-hot volume. -/
def spread (f : Fl F S2x16x224x224) (v : Fl F S2x32x224x224) : Fl F S2x16x32x224x224 :=
  mulf
    (broadcastInDim S2x16x32x224x224 ![0, 1, 2, 3, 4] bcast_S2x16x1x224x224_S2x16x32x224x224_0_1_2_3_4
      (broadcastInDim S2x16x1x224x224 ![0, 1, 3, 4] bcast_S2x16x224x224_S2x16x1x224x224_0_1_3_4 f))
    (broadcastInDim S2x16x32x224x224 ![0, 1, 2, 3, 4] bcast_S2x1x32x224x224_S2x16x32x224x224_0_1_2_3_4
      (broadcastInDim S2x1x32x224x224 ![0, 2, 3, 4] bcast_S2x32x224x224_S2x1x32x224x224_0_2_3_4 v))

/-- The reference's result: both convolutions' feature map, placed at each pixel's nearest hypothesis. -/
def result (x : Fl F S2x1x224x224) (h : Fl F S2x32) (w1 : Fl F S16x1x3x3) (b1 : Fl F S16)
    (w2 : Fl F S16x16x3x3) (b2 : Fl F S16) : Fl F S2x16x32x224x224 :=
  spread (biasRelu (sum2 (biasRelu (sum1 x w1) b1) w2) b2) (oneHot (nearest x h))

end Cert.ReferenceIdeal.Line
-- ==== Proof.RefRun.lean ====
module

public import proofs.«01_k».proof.Proof.RefVals

/-! # The reference's run

Every run of the reference ends with its result buffer at `Line.result` of its arguments, and with its
arguments as they were. -/

@[expose] public section

set_option maxRecDepth 16384
set_option maxHeartbeats 4000000

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F]

/-- The first convolution leaves its feature map. -/
theorem read_conv1 (V : Valuation τ sig (Elt F)) :
    after (opsConv1a ++ opsConv1b) V (Proc.devRef .tc main_v59) = biasRelu (sum1 (V (Proc.devRef .tc main_arg0)) (V (Proc.devRef .tc main_arg2))) (V (Proc.devRef .tc main_arg3)) := by
  simp only [opsConv1a, opsConv1b, List.cons_append, List.nil_append, TRef.nullary, TRef.unary, TRef.binary,
    TRef.quaternary, TRef.toBuf, TRef.ofBuf, cast_eq]
  after_results_simp
  rfl

/-- The second convolution leaves its feature map. -/
theorem read_conv2 (V : Valuation τ sig (Elt F)) :
    after (opsConv2a ++ opsConv2b) V (Proc.devRef .tc main_v119) = biasRelu (sum2 (V (Proc.devRef .tc main_v59)) (V (Proc.devRef .tc main_arg4))) (V (Proc.devRef .tc main_arg5)) := by
  simp only [opsConv2a, opsConv2b, List.cons_append, List.nil_append, TRef.nullary, TRef.unary, TRef.binary,
    TRef.quaternary, TRef.toBuf, TRef.ofBuf, cast_eq]
  after_results_simp
  rfl

/-- The search leaves the index of each least distance. -/
theorem read_near (V : Valuation τ sig (Elt F)) :
    after (opsNear) V (Proc.devRef .tc main_v127) = nearest (V (Proc.devRef .tc main_arg0)) (V (Proc.devRef .tc main_arg1)) := by
  simp only [opsNear, List.cons_append, List.nil_append, TRef.nullary, TRef.unary, TRef.binary,
    TRef.quaternary, TRef.toBuf, TRef.ofBuf, cast_eq]
  after_results_simp
  rfl

/-- The index column of this coordinate. -/
theorem read_batch (V : Valuation τ sig (Elt F)) :
    after (opsCoord) V (Proc.devRef .tc main_v158) = colBatch := by
  simp only [opsCoord, List.cons_append, List.nil_append, TRef.nullary, TRef.unary, TRef.binary,
    TRef.quaternary, TRef.toBuf, TRef.ofBuf, cast_eq]
  after_results_simp
  rfl

/-- The index column of this coordinate. -/
theorem read_hyp (V : Valuation τ sig (Elt F)) :
    after (opsCoord) V (Proc.devRef .tc main_v159) = colHyp (V (Proc.devRef .tc main_v127)) := by
  simp only [opsCoord, List.cons_append, List.nil_append, TRef.nullary, TRef.unary, TRef.binary,
    TRef.quaternary, TRef.toBuf, TRef.ofBuf, cast_eq]
  after_results_simp
  rfl

/-- The index column of this coordinate. -/
theorem read_row (V : Valuation τ sig (Elt F)) :
    after (opsCoord) V (Proc.devRef .tc main_v160) = colRow := by
  simp only [opsCoord, List.cons_append, List.nil_append, TRef.nullary, TRef.unary, TRef.binary,
    TRef.quaternary, TRef.toBuf, TRef.ofBuf, cast_eq]
  after_results_simp
  rfl

/-- The index column of this coordinate. -/
theorem read_col (V : Valuation τ sig (Elt F)) :
    after (opsCoord) V (Proc.devRef .tc main_v161) = colCol := by
  simp only [opsCoord, List.cons_append, List.nil_append, TRef.nullary, TRef.unary, TRef.binary,
    TRef.quaternary, TRef.toBuf, TRef.ofBuf, cast_eq]
  after_results_simp
  rfl

/-- The volume the ones are written into is zero. -/
theorem read_zero (V : Valuation τ sig (Elt F)) :
    after (opsCoord) V (Proc.devRef .tc main_v134) = broadcastInDim S2x32x224x224 ![] bcast_S_S2x32x224x224 (constant S_ .f32 0x00000000#32) := by
  simp only [opsCoord, List.cons_append, List.nil_append, TRef.nullary, TRef.unary, TRef.binary,
    TRef.quaternary, TRef.toBuf, TRef.ofBuf, cast_eq]
  after_results_simp

/-- The ones are written at the columns. -/
theorem read_hot (V : Valuation τ sig (Elt F)) :
    after (opsHot) V (Proc.devRef .tc main_v164) = writeOnes (V (Proc.devRef .tc main_v134)) (V (Proc.devRef .tc main_v158)) (V (Proc.devRef .tc main_v159)) (V (Proc.devRef .tc main_v160)) (V (Proc.devRef .tc main_v161)) := by
  simp only [opsHot, List.cons_append, List.nil_append, TRef.nullary, TRef.unary, TRef.binary,
    TRef.quaternary, TRef.toBuf, TRef.ofBuf, cast_eq]
  after_results_simp
  rfl

/-- The result is the product. -/
theorem read_prod (V : Valuation τ sig (Elt F)) :
    after (opsSpread ++ opsProd) V (Proc.devRef .tc main_v169) = spread (V (Proc.devRef .tc main_v119)) (V (Proc.devRef .tc main_v164)) := by
  simp only [opsSpread, opsProd, List.cons_append, List.nil_append, TRef.nullary, TRef.unary, TRef.binary,
    TRef.quaternary, TRef.toBuf, TRef.ofBuf, cast_eq]
  after_results_simp
  rfl

/-- Two lists run one after the other. -/
theorem after_both (l k : List (HloOp τ sig (Elt F))) (V : Valuation τ sig (Elt F)) :
    after (l ++ k) V = after k (after l V) := by
  induction l generalizing V with
  | nil => rfl
  | cons op l ih => exact ih _

/-- A stage leaves a buffer alone that it does not write: the form the composition below uses. -/
theorem keep {W : List (Ref sig .tc)} (ops : List (HloOp τ sig (Elt F))) (V : Valuation τ sig (Elt F))
    (hW : ops.Forall fun op => op.writes ⊆ (W.map (Proc.devRef (τ := τ) .tc)).toFinset) (r : Ref sig .tc) (hr : r ∉ W) :
    after ops V (Proc.devRef .tc r) = V (Proc.devRef .tc r) := after_of_writes_sub ops V hW hr

/-- The line leaves its result buffer at `result` of the arguments. -/
theorem line_result (V : Valuation τ sig (Elt F)) :
    after line V (Proc.devRef .tc main_v169)
      = result (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  have e1 := read_conv1 V
  rw [after_both] at e1
  generalize h1 : after opsConv1b (after opsConv1a V) = V1 at e1
  have k1 : ∀ r, r ∉ opsConv1aW → r ∉ opsConv1bW → V1 (Proc.devRef .tc r) = V (Proc.devRef .tc r) := fun r ha hb => by
    rw [← h1, keep _ _ opsConv1b_writes r hb, keep _ _ opsConv1a_writes r ha]
  have e2 := read_conv2 V1
  rw [after_both] at e2
  generalize h2 : after opsConv2b (after opsConv2a V1) = V2 at e2
  have k2 : ∀ r, r ∉ opsConv2aW → r ∉ opsConv2bW → V2 (Proc.devRef .tc r) = V1 (Proc.devRef .tc r) := fun r ha hb => by
    rw [← h2, keep _ _ opsConv2b_writes r hb, keep _ _ opsConv2a_writes r ha]
  have e3 := read_near V2
  generalize h3 : after opsNear V2 = V3 at e3
  have k3 : ∀ r, r ∉ opsNearW → V3 (Proc.devRef .tc r) = V2 (Proc.devRef .tc r) := fun r ha => by
    rw [← h3, keep _ _ opsNear_writes r ha]
  have e4 := read_batch V3
  have e5 := read_hyp V3
  have e6 := read_row V3
  have e7 := read_col V3
  have e8 := read_zero V3
  generalize h4 : after opsCoord V3 = V4 at e4 e5 e6 e7 e8
  have k4 : ∀ r, r ∉ opsCoordW → V4 (Proc.devRef .tc r) = V3 (Proc.devRef .tc r) := fun r ha => by
    rw [← h4, keep _ _ opsCoord_writes r ha]
  have e9 := read_hot V4
  generalize h5 : after opsHot V4 = V5 at e9
  have k5 : ∀ r, r ∉ opsHotW → V5 (Proc.devRef .tc r) = V4 (Proc.devRef .tc r) := fun r ha => by
    rw [← h5, keep _ _ opsHot_writes r ha]
  have e10 := read_prod V5
  rw [after_both] at e10
  simp only [line, after_both, h1, h2, h3, h4, h5]
  rw [e10, e9, e8, e7, e6, e5, e4, e3, k5 _ (by decide), k4 _ (by decide), k3 _ (by decide), e2,
    k2 _ (by decide) (by decide), k2 _ (by decide) (by decide), e1, k1 _ (by decide) (by decide), k1 _ (by decide) (by decide),
    k1 _ (by decide) (by decide), k1 _ (by decide) (by decide)]
  rfl

/-- The line leaves a buffer alone that none of its stages writes. -/
theorem line_keep (V : Valuation τ sig (Elt F)) (r : Ref sig .tc)
    (hr : r ∉ opsConv1aW ∧ r ∉ opsConv1bW ∧ r ∉ opsConv2aW ∧ r ∉ opsConv2bW ∧ r ∉ opsNearW ∧ r ∉ opsCoordW ∧ r ∉ opsHotW ∧ r ∉ opsSpreadW ∧ r ∉ opsProdW) :
    after line V (Proc.devRef .tc r) = V (Proc.devRef .tc r) := by
  obtain ⟨h1, h2, h3, h4, h5, h6, h7, h8, h9⟩ := hr
  simp only [line, after_both]
  rw [keep _ _ opsProd_writes r h9, keep _ _ opsSpread_writes r h8, keep _ _ opsHot_writes r h7, keep _ _ opsCoord_writes r h6, keep _ _ opsNear_writes r h5, keep _ _ opsConv2b_writes r h4, keep _ _ opsConv2a_writes r h3, keep _ _ opsConv1b_writes r h2, keep _ _ opsConv1a_writes r h1]

/-- The program is its line. -/
theorem main_line (c : Dev nD) : main (F := F) c = seq line := by
  simp only [main, main_part0_line, main_part1_line, main_part2_line, main_part3_line, line, seq_append, bind_assoc]

theorem scopedRefs_none : (Finset.univ.filter fun b : Ref sig .tc => b.isScoped) = ∅ := by decide
theorem scopedSems_none : (Finset.univ.filter fun sm : SemLoc sig => sm.isScoped .tc) = ∅ := by decide

/-- The line allocates no buffer. -/
theorem line_fresh : ∀ op ∈ (line : List (HloOp τ sig (Elt F))), op.fresh = ∅ := by
  refine List.forall_iff_forall_mem.mp ?_
  simp only [line, List.forall_append]
  exact ⟨⟨⟨opsConv1a_fresh, opsConv1b_fresh, opsConv2a_fresh⟩, ⟨⟨⟨opsConv2b_fresh, opsNear_fresh⟩, opsCoord_fresh⟩, opsHot_fresh⟩, opsSpread_fresh⟩, opsProd_fresh⟩

/-- The line touches the device's own buffers only. -/
theorem line_bufs : (line : List (HloOp τ sig (Elt F))).Forall fun op => op.bufs ⊆ tcRefs τ sig := by
  simp only [line, List.forall_append]
  exact ⟨⟨⟨opsConv1a_bufs, opsConv1b_bufs, opsConv2a_bufs⟩, ⟨⟨⟨opsConv2b_bufs, opsNear_bufs⟩, opsCoord_bufs⟩, opsHot_bufs⟩, opsSpread_bufs⟩, opsProd_bufs⟩

/-- Every run of the reference, from any memory with zero counters: it ends with its result at `result` of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v169)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_v169).trans (line_result _),
      (h c main_arg0).trans (line_keep _ _ (by decide)),
      (h c main_arg1).trans (line_keep _ _ (by decide)),
      (h c main_arg2).trans (line_keep _ _ (by decide)),
      (h c main_arg3).trans (line_keep _ _ (by decide)),
      (h c main_arg4).trans (line_keep _ _ (by decide)),
      (h c main_arg5).trans (line_keep _ _ (by decide))⟩)
    (run_seq scopedRefs_none scopedSems_none defs main (fun _ => line) main_line (fun _ => line_bufs) m ρ fun _ => line_fresh)

end Cert.ReferenceIdeal.Line
-- ==== Proof.Search.lean ====
module

public import proofs.«01_k».proof.Proof.Gen.KernelIdeal.Value
public import Idealize.ShloMosaic.Lib.Pointwise

/-! # The kernel's search for the nearest hypothesis

The kernel compares the distances of a pixel to the hypotheses one after the other, keeping the least distance
so far and its index.  Here the chain is written once, as a recursion over whole images, and every value the
kernel's parts hand on is one of its terms. -/

@[expose] public section

set_option maxRecDepth 16384

noncomputable section

namespace Cert.KernelIdeal.Search

open Cert.KernelIdeal Cert.KernelIdeal.Gen Idealize.ShloMosaic Idealize.ShloMosaic.TcCoe Idealize.SL.Sem

variable {F : FTy → Type} [FloatOps F]

/-- The `k`-th hypothesis. -/
def hyp (b : FVec F S32 .f32) (k : ℕ) : F .f32 := b (ix1 (Fin.ofNat 32 k))

/-- The distances of all pixels to the `k`-th hypothesis. -/
def dist (a : FVec F S224x224 .f32) (b : FVec F S32 .f32) (k : ℕ) : FVec F S224x224 .f32 :=
  absf (subf a (broadcast S224x224 (hyp b k)))

/-- The least distances among the hypotheses `0 … k`. -/
def best (a : FVec F S224x224 .f32) (b : FVec F S32 .f32) : ℕ → FVec F S224x224 .f32
  | 0 => dist a b 0
  | k + 1 => select (cmpf .olt (dist a b (k + 1)) (best a b k)) (dist a b (k + 1)) (best a b k)

/-- Where the `k`-th hypothesis is nearer than all before it. -/
def nearer (a : FVec F S224x224 .f32) (b : FVec F S32 .f32) (k : ℕ) : IVec S224x224 1 :=
  cmpf .olt (dist a b k) (best a b (k - 1))

/-- The index of the least distance among the hypotheses `0 … k`. -/
def index (a : FVec F S224x224 .f32) (b : FVec F S32 .f32) : ℕ → IVec S224x224 32
  | 0 => broadcast S224x224 0#32
  | k + 1 => select (nearer a b (k + 1)) (broadcast S224x224 (BitVec.ofNat 32 (k + 1))) (index a b k)

/-- A hypothesis is read by cutting it out of the list. -/
theorem dist_cut (a : FVec F S224x224 .f32) (b : FVec F S32 .f32) (k : ℕ) (h : S32.Slices ![k] S1) (hp) :
    absf (subf a (broadcast S224x224 (extractAt ![0] (extractStridedSlice S1 ![k] b h) hp))) = dist a b k := by
  have hk : k < 32 := by have := h.2 0; simpa using this
  refine congrArg (fun v => absf (subf a (broadcast S224x224 v))) (congrArg b (funext fun i => Fin.ext ?_))
  obtain rfl : i = 0 := Subsingleton.elim _ _
  simp [ix1, Fin.ofNat, Nat.mod_eq_of_lt hk]

theorem nearer_fold (a : FVec F S224x224 .f32) (b : FVec F S32 .f32) (k k' : ℕ) (h : k' = k + 1) :
    cmpf .olt (dist a b k') (best a b k) = nearer a b k' := by subst h; rfl

theorem best_fold (a : FVec F S224x224 .f32) (b : FVec F S32 .f32) (k k' : ℕ) (h : k' = k + 1) :
    select (nearer a b k') (dist a b k') (best a b k) = best a b k' := by subst h; rfl

theorem index_fold (a : FVec F S224x224 .f32) (b : FVec F S32 .f32) (c : BitVec 32) (k k' : ℕ) (h : k' = k + 1)
    (hc : c = BitVec.ofNat 32 k') :
    select (nearer a b k') (broadcast S224x224 c) (index a b k) = index a b k' := by subst h hc; rfl

/-- The first part's values. -/
theorem part0 (x : Vec F S1x1x224x224 .f32) (y : Vec F S1x1x32 .f32) :
    k0_pay22 x y = best (k0_pay17 x) (k0_pay18 y) 1 ∧ k0_pay23 x y = index (k0_pay17 x) (k0_pay18 y) 1
      ∧ k0_pay24 x y = dist (k0_pay17 x) (k0_pay18 y) 2 ∧ k0_pay25 x y = nearer (k0_pay17 x) (k0_pay18 y) 2 := by
  have hd0 : k0_pay19 x y = dist (k0_pay17 x) (k0_pay18 y) 0 := dist_cut _ _ 0 _ _
  have hd1 : k0_pay20 x y = dist (k0_pay17 x) (k0_pay18 y) 1 := dist_cut _ _ 1 _ _
  have hd2 : k0_pay24 x y = dist (k0_pay17 x) (k0_pay18 y) 2 := dist_cut _ _ 2 _ _
  have hb : k0_pay22 x y = best (k0_pay17 x) (k0_pay18 y) 1 := by
    rw [k0_pay22, k0_pay21, hd0, hd1]; rfl
  refine ⟨hb, ?_, hd2, ?_⟩
  · rw [k0_pay23, k0_pay21, hd0, hd1]; rfl
  · rw [k0_pay25, hd2, hb]; rfl

variable (a : FVec F S224x224 .f32) (b : FVec F S32 .f32)

/-- The second part takes the chain from hypothesis 1 to hypothesis 7. -/
theorem part1 :
    k0_pay41 a b (best a b 1) (dist a b 2) (nearer a b 2) = best a b 7
      ∧ k0_pay42 a b (best a b 1) (index a b 1) (dist a b 2) (nearer a b 2) = index a b 7
      ∧ k0_pay43 a b = dist a b 8
      ∧ k0_pay44 a b (best a b 1) (dist a b 2) (nearer a b 2) = nearer a b 8 := by
  refine ⟨?_, ?_, dist_cut _ _ 8 _ _, ?_⟩ <;>
  simp only [k0_pay26, k0_pay27, k0_pay28, k0_pay29, k0_pay30, k0_pay31, k0_pay32, k0_pay33, k0_pay34, k0_pay35,
    k0_pay36, k0_pay37, k0_pay38, k0_pay39, k0_pay40, k0_pay41, k0_pay42, k0_pay43, k0_pay44,
    dist_cut, nearer_fold, best_fold, index_fold]

/-- The third part takes it to hypothesis 13. -/
theorem part2 :
    k0_pay60 a b (best a b 7) (dist a b 8) (nearer a b 8) = best a b 13
      ∧ k0_pay61 a b (best a b 7) (index a b 7) (dist a b 8) (nearer a b 8) = index a b 13
      ∧ k0_pay62 a b = dist a b 14
      ∧ k0_pay63 a b (best a b 7) (dist a b 8) (nearer a b 8) = nearer a b 14 := by
  refine ⟨?_, ?_, dist_cut _ _ 14 _ _, ?_⟩ <;>
  simp only [k0_pay45, k0_pay46, k0_pay47, k0_pay48, k0_pay49, k0_pay50, k0_pay51, k0_pay52, k0_pay53, k0_pay54,
    k0_pay55, k0_pay56, k0_pay57, k0_pay58, k0_pay59, k0_pay60, k0_pay61, k0_pay62, k0_pay63,
    dist_cut, nearer_fold, best_fold, index_fold]

/-- The fourth part takes it to hypothesis 19. -/
theorem part3 :
    k0_pay79 a b (best a b 13) (dist a b 14) (nearer a b 14) = best a b 19
      ∧ k0_pay80 a b (best a b 13) (index a b 13) (dist a b 14) (nearer a b 14) = index a b 19
      ∧ k0_pay81 a b = dist a b 20
      ∧ k0_pay82 a b (best a b 13) (dist a b 14) (nearer a b 14) = nearer a b 20 := by
  refine ⟨?_, ?_, dist_cut _ _ 20 _ _, ?_⟩ <;>
  simp only [k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82,
    dist_cut, nearer_fold, best_fold, index_fold]

/-- The fifth part takes it to hypothesis 25. -/
theorem part4 :
    k0_pay98 a b (best a b 19) (dist a b 20) (nearer a b 20) = best a b 25
      ∧ k0_pay99 a b (best a b 19) (index a b 19) (dist a b 20) (nearer a b 20) = index a b 25
      ∧ k0_pay100 a b = dist a b 26
      ∧ k0_pay101 a b (best a b 19) (dist a b 20) (nearer a b 20) = nearer a b 26 := by
  refine ⟨?_, ?_, dist_cut _ _ 26 _ _, ?_⟩ <;>
  simp only [k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101,
    dist_cut, nearer_fold, best_fold, index_fold]

/-- The last part takes it to hypothesis 30, and compares hypothesis 31. -/
theorem part5 :
    k0_pay114 a b (best a b 25) (index a b 25) (dist a b 26) (nearer a b 26) = index a b 30
      ∧ k0_pay115 a b (best a b 25) (dist a b 26) (nearer a b 26) = nearer a b 31 := by
  refine ⟨?_, ?_⟩ <;>
  simp only [k0_pay102, k0_pay103, k0_pay104, k0_pay105, k0_pay106, k0_pay107, k0_pay108, k0_pay109, k0_pay110,
    k0_pay111, k0_pay112, k0_pay113, k0_pay114, k0_pay115, dist_cut, nearer_fold, best_fold, index_fold]

/-- The stored index is the chain's last. -/
theorem stored : k0_pay1 (index a b 30) (nearer a b 31) 31#32 = index a b 31 :=
  shapeCast_self _ _

end Cert.KernelIdeal.Search
-- ==== Proof.Blocks.lean ====
module

public import proofs.«01_k».proof.Proof.Gen.KernelIdeal.Value
public import Idealize.ShloMosaic.Lib.Pipeline.ValueKit
public import Idealize.ShloMosaic.Lib.Pointwise

/-! # What the kernel's blocks hold

The kernel runs over 32 grid points, 16 for each of the two batch entries.  Each input block is the batch entry's
part of an array, or a whole array; the arrays are the arguments, laid out anew. -/

@[expose] public section

set_option maxRecDepth 16384

noncomputable section

namespace Cert.KernelIdeal.Blocks

open Cert.KernelIdeal Cert.KernelIdeal.Gen Idealize.ShloMosaic Idealize.ShloMosaic.TcCoe Idealize.SL.Sem

variable {F : FTy → Type} [FloatOps F]

/-- The depth map with a margin of zeros: one row above, two below, one column left, 31 right; rows end to end. -/
def depthRows (x : FVec F S2x1x224x224 .f32) : FVec F S2x1x58112 .f32 :=
  shapeCast S2x1x58112 (pad S2x227x256 ![0, 1, 1] ![0, 2, 31] ![0, 0, 0]
    (shapeCast S2x224x224 x shapeCasts_S2x1x224x224_S2x224x224 : FVec F S2x224x224 .f32)
    (sitofp .f32 (constantI S_ 32 0#32)) pads_S2x224x224_S2x227x256_000_120_1310 h_S_) shapeCasts_S2x227x256_S2x1x58112

/-- The first convolution's weights, nine to a row. -/
def taps1 (w : FVec F S16x1x3x3 .f32) : FVec F S16x9 .f32 := shapeCast S16x9 w shapeCasts_S16x1x3x3_S16x9

/-- The second convolution's weights, one matrix to a tap. -/
def taps2 (w : FVec F S16x16x3x3 .f32) : FVec F S9x16x16 .f32 :=
  shapeCast S9x16x16 (transpose S3x3x16x16 [2, 3, 0, 1] w transposes_S16x16x3x3_S3x3x16x16_2_3_0_1)
    shapeCasts_S3x3x16x16_S9x16x16

/-- The hypotheses, one row to a batch entry. -/
def hyps (h : FVec F S2x32 .f32) : FVec F S2x1x32 .f32 := shapeCast S2x1x32 h shapeCasts_S2x32_S2x1x32

/-- A bias as one row. -/
def biasRow (b : FVec F S16 .f32) : FVec F S1x16 .f32 := shapeCast S1x16 b shapeCasts_S16_S1x16

/-- The batch entry of a grid point. -/
def entry (t : Fin cfg0.N) : Fin 2 := ⟨t.val / 16, by have := lt_of_lt_of_eq t.isLt (show cfg0.N = 32 from N_0); omega⟩

/-- The first part of each block's place in its array, decided over the grid. -/
theorem place : ∀ t : Fin cfg0.N,
    win0_0.index t = ![t.val / 16, 0, 0, 0] ∧ win0_1.index t = ![t.val / 16, 0, 0] ∧ win0_2.index t = ![t.val / 16, 0, 0]
      ∧ win0_3.index t = ![0, 0] ∧ win0_4.index t = ![0, 0] ∧ win0_5.index t = ![0, 0, 0] ∧ win0_6.index t = ![0, 0]
      ∧ win0_7.index t = ![t.val / 16, 0, t.val % 16, 0, 0] :=
  (by decide +kernel : ∀ t : Fin grid0.N, _)

variable (m : (ℓ : Loc nD τ sig) → Buf (Elt F) ℓ) (c : Dev nD)

/-- The depth block is the batch entry's depth map. -/
theorem depth (t : Fin cfg0.N) : (iblk m c 0 t : Vec F S1x1x224x224 .f32)
    = fun j => (m ((c : Thread nD τ).loc main_arg0) : FVec F S2x1x224x224 .f32) (ix4 (entry t) (j 1) (j 2) (j 3)) := by
  funext j
  have e := (place t).1
  blk_ext [iblk, V, e, entry]

/-- The padded block is the batch entry's padded rows. -/
theorem rows (t : Fin cfg0.N) : (iblk m c 1 t : Vec F S1x1x58112 .f32)
    = fun j => depthRows (m ((c : Thread nD τ).loc main_arg0)) (ix3 (entry t) (j 1) (j 2)) := by
  have e0 : (V m c main_v2 : FVec F S2x1x58112 .f32) = depthRows (m ((c : Thread nD τ).loc main_arg0)) := by
    entry_read
    rfl
  funext j
  rw [← e0]
  have e := (place t).2.1
  blk_ext [iblk, e, entry]

/-- The block of hypotheses is the batch entry's row. -/
theorem hypRow (t : Fin cfg0.N) : (iblk m c 2 t : Vec F S1x1x32 .f32)
    = fun j => hyps (m ((c : Thread nD τ).loc main_arg1)) (ix3 (entry t) (j 1) (j 2)) := by
  have e0 : (V m c main_v6 : FVec F S2x1x32 .f32) = hyps (m ((c : Thread nD τ).loc main_arg1)) := by
    entry_read
    rfl
  funext j
  rw [← e0]
  have e := (place t).2.2.1
  blk_ext [iblk, e, entry]

/-- The first weights' block is the whole array. -/
theorem weights1 (t : Fin cfg0.N) : (iblk m c 3 t : Vec F S16x9 .f32) = taps1 (m ((c : Thread nD τ).loc main_arg2)) := by
  have e0 : (V m c main_v3 : FVec F S16x9 .f32) = taps1 (m ((c : Thread nD τ).loc main_arg2)) := by
    entry_read
    rfl
  funext j
  rw [← e0]
  have e := (place t).2.2.2.1
  blk_ext [iblk, e]

/-- The first bias's block is the whole row. -/
theorem bias1 (t : Fin cfg0.N) : (iblk m c 4 t : Vec F S1x16 .f32) = biasRow (m ((c : Thread nD τ).loc main_arg3)) := by
  have e0 : (V m c main_v7 : FVec F S1x16 .f32) = biasRow (m ((c : Thread nD τ).loc main_arg3)) := by
    entry_read
    rfl
  funext j
  rw [← e0]
  have e := (place t).2.2.2.2.1
  blk_ext [iblk, e]

/-- The second weights' block is the whole array. -/
theorem weights2 (t : Fin cfg0.N) : (iblk m c 5 t : Vec F S9x16x16 .f32) = taps2 (m ((c : Thread nD τ).loc main_arg4)) := by
  have e0 : (V m c main_v5 : FVec F S9x16x16 .f32) = taps2 (m ((c : Thread nD τ).loc main_arg4)) := by
    entry_read
    rfl
  funext j
  rw [← e0]
  have e := (place t).2.2.2.2.2.1
  blk_ext [iblk, e]

/-- The second bias's block is the whole row. -/
theorem bias2 (t : Fin cfg0.N) : (iblk m c 6 t : Vec F S1x16 .f32) = biasRow (m ((c : Thread nD τ).loc main_arg5)) := by
  have e0 : (V m c main_v8 : FVec F S1x16 .f32) = biasRow (m ((c : Thread nD τ).loc main_arg5)) := by
    entry_read
    rfl
  funext j
  rw [← e0]
  have e := (place t).2.2.2.2.2.2.1
  blk_ext [iblk, e]

end Cert.KernelIdeal.Blocks
-- ==== Proof.Body.lean ====
module

public import proofs.«01_k».proof.Proof.Search
public import proofs.«01_k».proof.Proof.Blocks

/-! # What one grid point leaves

A batch entry's first point computes the feature map and the index map into two scratch arrays; every point reads
them and writes two planes of the result.  Here the two maps are named as functions of the blocks, and shown to be
what the scratch arrays hold after every point. -/

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- The first convolution of the padded rows, with the margin's columns set to zero. -/
def hidden (x : Vec F S1x1x58112 .f32) (w : Vec F S16x9 .f32) (b : Vec F S1x16 .f32) : FVec F S16x57344 .f32 :=
  k0_pay12 (k0_pay8 (k0_pay4 x) (k0_pay5 w) (k0_pay6 x w) (k0_pay7 x) b) k0_pay9 (FloatOps.ofBits FTy.f32 0#32)

/-- The rows the second convolution reads: the first feature map between two stretches of zeros. -/
def hiddenRows (x : Vec F S1x1x58112 .f32) (w : Vec F S16x9 .f32) (b : Vec F S1x16 .f32) :
    (S16x58112).Idx → Elt F .f32 :=
  View.canon
    [⟨Rect.unit ![0, 257] ![16, 57344] inb_S16x58112_S16x57344_0_257, hidden x w b⟩,
     ⟨Rect.unit ![0, 57601] ![16, 511] inb_S16x58112_S16x511_0_57601, k0_pay11⟩,
     ⟨Rect.unit ![0, 0] ![16, 257] inb_S16x58112_S16x257_0_0, k0_pay10⟩]

/-- The rows from an offset on. -/
def from_ (h : (S16x58112).Idx → Elt F .f32) (o : ℕ)
    (inb : ∀ a, (![0, o] : Fin 2 → ℕ) a + (![16, 57344] : Fin 2 → ℕ) a ≤ S16x58112.size a) : Vec F S16x57344 .f32 :=
  fun j => h ((Rect.unit (s := S16x58112) ![0, o] ![16, 57344] inb).toLoadRect.idx j)

/-- The weights of one tap. -/
def tap (w : Vec F S9x16x16 .f32) (k : ℕ)
    (inb : ∀ a, (![k, 0, 0] : Fin 3 → ℕ) a + (![1, 16, 16] : Fin 3 → ℕ) a ≤ S9x16x16.size a) : Vec F S1x16x16 .f32 :=
  View.ld w (Rect.unit ![k, 0, 0] ![1, 16, 16] inb)

/-- The second convolution of those rows: the feature map. -/
def features (h : (S16x58112).Idx → Elt F .f32) (w : Vec F S9x16x16 .f32) (b : Vec F S1x16 .f32) : FVec F S16x224x224 .f32 :=
  k0_pay16
    (k0_pay15
      (k0_pay13 (from_ h 0 inb_S16x58112_S16x57344_0_0) (tap w 0 inb_S9x16x16_S1x16x16_0_0_0)
        (from_ h 1 inb_S16x58112_S16x57344_0_1) (tap w 1 inb_S9x16x16_S1x16x16_1_0_0))
      (k0_pay14 (from_ h 2 inb_S16x58112_S16x57344_0_2) (tap w 2 inb_S9x16x16_S1x16x16_2_0_0))
      (from_ h 256 inb_S16x58112_S16x57344_0_256) (tap w 3 inb_S9x16x16_S1x16x16_3_0_0)
      (from_ h 257 inb_S16x58112_S16x57344_0_257) (tap w 4 inb_S9x16x16_S1x16x16_4_0_0)
      (from_ h 258 inb_S16x58112_S16x57344_0_258) (tap w 5 inb_S9x16x16_S1x16x16_5_0_0)
      (from_ h 512 inb_S16x58112_S16x57344_0_512) (tap w 6 inb_S9x16x16_S1x16x16_6_0_0)
      (from_ h 513 inb_S16x58112_S16x57344_0_513) (tap w 7 inb_S9x16x16_S1x16x16_7_0_0))
    (from_ h 514 inb_S16x58112_S16x57344_0_514) (tap w 8 inb_S9x16x16_S1x16x16_8_0_0) b

variable (m : (ℓ : Loc nD τ sig) → Buf (Elt F) ℓ) (c : Dev nD)

/-- The feature map of a grid point's batch entry. -/
def feat (t : Fin cfg0.N) : FVec F S16x224x224 .f32 :=
  features (hiddenRows (iblk m c 1 t) (iblk m c 3 t) (iblk m c 4 t)) (iblk m c 5 t) (iblk m c 6 t)

/-- The index map of a grid point's batch entry. -/
def near (t : Fin cfg0.N) : IVec S224x224 32 := Search.index (k0_pay17 (iblk m c 0 t)) (k0_pay18 (iblk m c 2 t)) 31

/-- The two planes of a point's result block: each holds the feature map where the index map names the plane's
    hypothesis, and zero elsewhere. -/
def planes (i : grid0.Coords) (v : Vec F S224x224 .i32) (f : Vec F S16x224x224 .f32) :
    (S1x16x2x224x224).Idx → Elt F .f32 :=
  View.canon
    [⟨Rect.unit ![0, 0, 1, 0, 0] ![1, 16, 1, 224, 224] inb_S1x16x2x224x224_S1x16x1x224x224_0_0_1_0_0, k0_pay3 i v f⟩,
     ⟨Rect.unit ![0, 0, 0, 0, 0] ![1, 16, 1, 224, 224] inb_S1x16x2x224x224_S1x16x1x224x224_0_0_0_0_0, k0_pay2 i v f⟩]

/-- A batch entry's first point leaves the feature map. -/
theorem feat_first (t : Fin cfg0.N) (h : t.val % 16 = 0) : (outsAt0 m c t.val t.isLt).2.1 = feat m c t := by
  rw [outsAt0_A m c t h]
  frame_out
  unfold feat features from_ tap hiddenRows hidden
  simp only [View.readCov_eq_canon']
  congr 1

/-- A batch entry's first point leaves the index map. -/
theorem near_first (t : Fin cfg0.N) (h : t.val % 16 = 0) : (outsAt0 m c t.val t.isLt).2.2 = near m c t := by
  rw [outsAt0_A m c t h, near]
  frame_out
  obtain ⟨e1, e2, e3, e4⟩ := Search.part0 (iblk m c 0 t : Vec F S1x1x224x224 .f32) (iblk m c 2 t : Vec F S1x1x32 .f32)
  rw [e1, e2, e3, e4]
  generalize k0_pay17 (iblk m c 0 t : Vec F S1x1x224x224 .f32) = a
  generalize k0_pay18 (iblk m c 2 t : Vec F S1x1x32 .f32) = b
  obtain ⟨f1, f2, f3, f4⟩ := Search.part1 a b
  obtain ⟨g1, g2, g3, g4⟩ := Search.part2 a b
  obtain ⟨h1, h2, h3, h4⟩ := Search.part3 a b
  obtain ⟨i1, i2, i3, i4⟩ := Search.part4 a b
  obtain ⟨j1, j2⟩ := Search.part5 a b
  rw [f1, f2, f3, f4, g1, g2, g3, g4, h1, h2, h3, h4, i1, i2, i3, i4, j1, j2]
  exact Search.stored a b

/-- A batch entry's first point writes the planes of the maps it leaves. -/
theorem out_first (t : Fin cfg0.N) (h : t.val % 16 = 0) :
    (outsAt0 m c t.val t.isLt).1
      = planes (grid0.coords t) (outsAt0 m c t.val t.isLt).2.2 (outsAt0 m c t.val t.isLt).2.1 := by
  rw [outsAt0_A m c t h]
  frame_out

/-- A later point leaves the scratch arrays as it found them. -/
theorem keep_later (t : Fin cfg0.N) (h : ¬t.val % 16 = 0) :
    (outsAt0 m c t.val t.isLt).2 = (outsAt0 m c (t.val - 1) (Nat.lt_of_le_of_lt (Nat.sub_le _ _) t.isLt)).2 := by
  rw [outsAt0_B m c t h]
  rfl

/-- A later point writes the planes of the maps it found. -/
theorem out_later (t : Fin cfg0.N) (h : ¬t.val % 16 = 0) :
    (outsAt0 m c t.val t.isLt).1
      = planes (grid0.coords t) (outsAt0 m c t.val t.isLt).2.2 (outsAt0 m c t.val t.isLt).2.1 := by
  rw [keep_later m c t h, outsAt0_B m c t h]
  frame_out
  generalize (outsAt0 m c (t.val - 1) (Nat.lt_of_le_of_lt (Nat.sub_le _ _) t.isLt)).2 = s
  have e0 : View.read (Elt F) (View.whole cc0_scratch0) ((Memref.isWhole_whole cc0_scratch0).unread s.1) = s.1 :=
    (Memref.isWhole_whole cc0_scratch0).read_unread s.1
  have e1 : View.read (Elt F) (View.whole cc0_scratch1) ((Memref.isWhole_whole cc0_scratch1).unread s.2) = s.2 :=
    (Memref.isWhole_whole cc0_scratch1).read_unread s.2
  rw [e0, e1]

/-- The feature map of a batch entry, over the arguments. -/
def featMap (x : FVec F S2x1x224x224 .f32) (w1 : FVec F S16x1x3x3 .f32) (b1 : FVec F S16 .f32)
    (w2 : FVec F S16x16x3x3 .f32) (b2 : FVec F S16 .f32) (e : Fin 2) : FVec F S16x224x224 .f32 :=
  features (hiddenRows (fun j => Blocks.depthRows x (ix3 e (j 1) (j 2))) (Blocks.taps1 w1) (Blocks.biasRow b1))
    (Blocks.taps2 w2) (Blocks.biasRow b2)

/-- The index map of a batch entry, over the arguments. -/
def nearMap (x : FVec F S2x1x224x224 .f32) (h : FVec F S2x32 .f32) (e : Fin 2) : IVec S224x224 32 :=
  Search.index (k0_pay17 fun j => x (ix4 e (j 1) (j 2) (j 3))) (k0_pay18 fun j => Blocks.hyps h (ix3 e (j 1) (j 2))) 31

/-- A point's feature map is its batch entry's. -/
theorem feat_eq (t : Fin cfg0.N) : feat m c t
    = featMap (m ((c : Thread nD τ).loc main_arg0)) (m ((c : Thread nD τ).loc main_arg2))
        (m ((c : Thread nD τ).loc main_arg3)) (m ((c : Thread nD τ).loc main_arg4))
        (m ((c : Thread nD τ).loc main_arg5)) (Blocks.entry t) := by
  unfold feat featMap
  rw [Blocks.rows, Blocks.weights1, Blocks.bias1, Blocks.weights2, Blocks.bias2]
  rfl

/-- A point's index map is its batch entry's. -/
theorem near_eq (t : Fin cfg0.N) : near m c t
    = nearMap (m ((c : Thread nD τ).loc main_arg0)) (m ((c : Thread nD τ).loc main_arg1)) (Blocks.entry t) := by
  unfold near nearMap
  rw [Blocks.depth, Blocks.hypRow]
  rfl

/-- After every point the scratch arrays hold its batch entry's two maps. -/
theorem scratch (n : ℕ) (hn : n < cfg0.N) :
    (outsAt0 m c n hn).2.1 = feat m c ⟨n, hn⟩ ∧ (outsAt0 m c n hn).2.2 = near m c ⟨n, hn⟩ := by
  induction n with
  | zero => exact ⟨feat_first m c ⟨0, hn⟩ rfl, near_first m c ⟨0, hn⟩ rfl⟩
  | succ n ih =>
    by_cases h : (n + 1) % 16 = 0
    · exact ⟨feat_first m c ⟨n + 1, hn⟩ h, near_first m c ⟨n + 1, hn⟩ h⟩
    · have k := keep_later m c ⟨n + 1, hn⟩ h
      obtain ⟨i1, i2⟩ := ih (Nat.lt_of_succ_lt hn)
      have he : Blocks.entry ⟨n + 1, hn⟩ = Blocks.entry ⟨n, Nat.lt_of_succ_lt hn⟩ :=
        Fin.ext (show (n + 1) / 16 = n / 16 by omega)
      rw [feat_eq, near_eq, he, ← feat_eq, ← near_eq, ← i1, ← i2]
      exact ⟨congrArg Prod.fst k, congrArg Prod.snd k⟩

/-- Every point writes the planes of its batch entry's two maps. -/
theorem out_eq (t : Fin cfg0.N) : (outsAt0 m c t.val t.isLt).1
    = planes (grid0.coords t)
        (nearMap (m ((c : Thread nD τ).loc main_arg0)) (m ((c : Thread nD τ).loc main_arg1)) (Blocks.entry t))
        (featMap (m ((c : Thread nD τ).loc main_arg0)) (m ((c : Thread nD τ).loc main_arg2))
          (m ((c : Thread nD τ).loc main_arg3)) (m ((c : Thread nD τ).loc main_arg4))
          (m ((c : Thread nD τ).loc main_arg5)) (Blocks.entry t)) := by
  have e : (outsAt0 m c t.val t.isLt).1
      = planes (grid0.coords t) (outsAt0 m c t.val t.isLt).2.2 (outsAt0 m c t.val t.isLt).2.1 := by
    by_cases h : t.val % 16 = 0
    · exact out_first m c t h
    · exact out_later m c t h
  rw [e, (scratch m c t.val t.isLt).1, (scratch m c t.val t.isLt).2, ← feat_eq, ← near_eq]

end Cert.KernelIdeal.Body
-- ==== Proof.Planes.lean ====
module

public import proofs.«01_k».proof.Proof.Body

/-! # The kernel's result array

Each grid point writes two planes of one batch entry's result.  Read at an index, the result is the feature map where
the index map names the hypothesis, and zero elsewhere. -/

@[expose] public section

set_option maxRecDepth 16384

noncomputable section

namespace Cert.KernelIdeal.Planes

open Cert.KernelIdeal.Blocks Cert.KernelIdeal Cert.KernelIdeal.Gen Idealize.ShloMosaic Idealize.ShloMosaic.TcCoe Idealize.SL.Sem

variable {F : FTy → Type} [FloatOps F]

/-- A choice by a comparison of two words for equality. -/
theorem choose_eq {α : Type} (a b : BitVec 32) (x y : α) :
    Scalar.select (IntOp.cmpi .eq a b) x y = if a = b then x else y := by
  rw [WordCmp.cmpi_eq_eq, WordCmp.select_ofBool]
  simp only [decide_eq_true_eq]

/-- Two planes, read at an index: the feature map where the index map names the plane's hypothesis, and zero
    elsewhere. -/
theorem planes_at (i : grid0.Coords) (v : Vec F S224x224 .i32) (f : Vec F S16x224x224 .f32)
    (y : S1x16x2x224x224.Idx) :
    Body.planes i v f y
      = if v (ix2 (y 3) (y 4)) = BitVec.ofNat 32 ((i 1).val * 2 + (y 2).val) then
          f (ix3 (y 1) (y 3) (y 4)) else FloatOps.ofBits .f32 0#32 := by
  rw [BitVec.ofNat_add, BitVec.ofNat_mul]
  unfold Body.planes
  canon_tiles x h
  · have e2 : (y 2).val = 1 := by omega
    have e1 : y 1 = x 1 := Fin.ext h1
    have e3 : y 3 = x 3 := Fin.ext h3
    have e4 : y 4 = x 4 := Fin.ext h4
    rw [e1, e2, e3, e4]
    idx_vars x
    pointwise [k0_pay3]
    exact choose_eq _ _ _ _
  · have e2 : (y 2).val = 0 := by omega
    have e1 : y 1 = x 1 := Fin.ext h1
    have e3 : y 3 = x 3 := Fin.ext h3
    have e4 : y 4 = x 4 := Fin.ext h4
    rw [e1, e2, e3, e4]
    idx_vars x
    pointwise [k0_pay2]
    exact choose_eq _ _ _ _

/-- An array of planes: the feature map of the batch entry where its index map names the plane's hypothesis, and zero
    elsewhere. -/
def filled (v : Fin 2 → Vec F S224x224 .i32) (f : Fin 2 → Vec F S16x224x224 .f32) : FVec F S2x16x32x224x224 .f32 :=
  fun i => if v (i 0) (ix2 (i 3) (i 4)) = BitVec.ofNat 32 (i 2).val then f (i 0) (ix3 (i 1) (i 3) (i 4))
    else FloatOps.ofBits .f32 0#32

variable (m : (ℓ : Loc nD τ sig) → Buf (Elt F) ℓ) (c : Dev nD)

/-- The second grid coordinate of a point, decided over the grid. -/
theorem step : ∀ t : Fin cfg0.N, (grid0.coords t 1).val = t.val % 16 := (by decide +kernel : ∀ t : Fin grid0.N, _)

/-- After the run the result array holds the planes of both batch entries. -/
theorem final : (dats m 0 c).arrAt 7 cfg0.N
    = filled (Body.nearMap (m ((c : Thread nD τ).loc main_arg0)) (m ((c : Thread nD τ).loc main_arg1)))
        (Body.featMap (m ((c : Thread nD τ).loc main_arg0)) (m ((c : Thread nD τ).loc main_arg2))
          (m ((c : Thread nD τ).loc main_arg3)) (m ((c : Thread nD τ).loc main_arg4))
          (m ((c : Thread nD τ).loc main_arg5))) := by
  refine (dats m 0 c).arrAt_eq_of_covers 7 _ (by decide +kernel) fun t hf y => ?_
  blk_simp
  rw [after0_7, Body.out_eq]
  refine (planes_at _ _ _ y).trans ?_
  have e := (place t).2.2.2.2.2.2.2
  have h2 : (y 2).val < 2 := (y 2).isLt
  have hi : (win0_7.blk t).view.emb y
      = (ix5 (entry t) (y 1) ⟨t.val % 16 * 2 + (y 2).val, by omega⟩ (y 3) (y 4) : S2x16x32x224x224.Idx) := by
    blk_ext [e, entry]
  rw [hi, step]
  rfl

end Cert.KernelIdeal.Planes
-- ==== Proof.Taps.lean ====
module

public import Idealize.ShloMosaic.Lib.Pointwise

/-! # A 3x3 convolution over the reals

The nine taps of a 3x3 convolution, their sum, and an image read through a margin of zeros. -/

@[expose] public section

noncomputable section

namespace Cert.Taps

/-- An image inside a margin of zeros, read at coordinates that count from the margin's corner: zero unless both lie
    between 1 and 224. -/
def edge (g : Fin 224 → Fin 224 → EReal) (r k : ℕ) : EReal :=
  if h : (1 ≤ r ∧ r ≤ 224) ∧ (1 ≤ k ∧ k ≤ 224) then g ⟨r - 1, by omega⟩ ⟨k - 1, by omega⟩ else 0

/-- Inside, the image itself. -/
theorem edge_in (g : Fin 224 → Fin 224 → EReal) (r k : ℕ) (a b : Fin 224) (hr : r = a.val + 1) (hk : k = b.val + 1) :
    edge g r k = g a b := by
  subst hr hk
  have := a.isLt
  have := b.isLt
  unfold edge
  rw [dif_pos (by omega)]
  rfl

/-- In the margin, and beyond it, zero. -/
theorem edge_out (g : Fin 224 → Fin 224 → EReal) (r k : ℕ) (h : ¬((1 ≤ r ∧ r ≤ 224) ∧ (1 ≤ k ∧ k ≤ 224))) :
    edge g r k = 0 := dif_neg h

/-- The sum of nine taps, row by row. -/
def nine (t : Fin 3 → Fin 3 → EReal) : EReal :=
  t 0 0 + t 0 1 + t 0 2 + t 1 0 + t 1 1 + t 1 2 + t 2 0 + t 2 1 + t 2 2

/-- One output of a layer: the nine taps and the bias, with the negative part cut away. -/
def layer (b : EReal) (t : Fin 3 → Fin 3 → EReal) : EReal := max (nine t + b) 0

/-- Layers with the same taps agree. -/
theorem layer_congr {b b' : EReal} {t t' : Fin 3 → Fin 3 → EReal} (hb : b = b') (ht : ∀ dy dx, t dy dx = t' dy dx) :
    layer b t = layer b' t' := by
  rw [hb, funext fun dy => funext fun dx => ht dy dx]

/-- The first convolution of an image, one output channel: bias, weights and image given. -/
def first (b : EReal) (w : Fin 3 → Fin 3 → EReal) (x : Fin 224 → Fin 224 → EReal) (r k : Fin 224) : EReal :=
  layer b fun dy dx => w dy dx * edge x (r.val + dy.val) (k.val + dx.val)

/-- The second convolution of sixteen images, one output channel. -/
def second (b : EReal) (w : Fin 16 → Fin 3 → Fin 3 → EReal) (x : Fin 16 → Fin 224 → Fin 224 → EReal) (r k : Fin 224) :
    EReal :=
  layer b fun dy dx => ∑ i, w i dy dx * edge (x i) (r.val + dy.val) (k.val + dx.val)

end Cert.Taps
-- ==== Proof.KernelConv.lean ====
module

public import proofs.«01_k».proof.Proof.Body
public import proofs.«01_k».proof.Proof.Taps

/-! # The kernel's two convolutions, read at an index

Over the extended reals. -/

@[expose] public section

set_option maxRecDepth 16384

noncomputable section

namespace Cert.KernelIdeal.Conv

open Cert.KernelIdeal Cert.KernelIdeal.Gen Idealize.ShloMosaic Idealize.ShloMosaic.TcCoe Idealize.SL.Sem
open Cert.Taps

/-- The padded rows, read at a place: the depth map through a margin of zeros. -/
theorem depthRows_at (x : FVec Ideal S2x1x224x224 .f32) (e : Fin 2) (q : Fin 58112) :
    Blocks.depthRows x (ix3 e 0 q) = edge (fun r k => x (ix4 e 0 r k)) (q.val / 256) (q.val % 256) := by
  pointwise [Blocks.depthRows]
  unfold edge
  have h0 : (FloatOps.sitofp FTy.f32 0#32 : Ideal .f32) = (0 : EReal) := by
    show ((((0#32 : BitVec 32).toInt : ℤ) : ℝ) : EReal) = 0
    simp
  rw [h0]
  by_cases h : (1 ≤ q.val / 256 ∧ q.val / 256 ≤ 224) ∧ 1 ≤ q.val % 256 ∧ q.val % 256 ≤ 224
  · rw [dif_pos h, dif_pos (by omega)]
  · rw [dif_neg h, dif_neg (by omega)]

/-- The mask's word at each of the 256 columns of a row. -/
theorem mask_small : ∀ k : Fin 256,
    IntOp.cmpi .slt (Scalar.select
      (IntOp.andi (IntOp.xori (IntOp.cmpi .slt (BitVec.ofNat 32 k.val) 0#32) (Scalar.cmpi .slt 256#32 0#32))
        (IntOp.cmpi .ne (BitVec.ofNat 32 k.val) 0#32))
      (IntOp.addi (BitVec.ofNat 32 k.val) 256#32) (BitVec.ofNat 32 k.val)) 224#32
      = BitVec.ofBool (decide (k.val < 224)) := by decide +kernel

/-- The mask of the columns that belong to the image. -/
theorem mask_at (n : Fin 57344) : k0_pay9 (ix2 0 n) = BitVec.ofBool (decide (n.val % 256 < 224)) := by
  have hn := n.isLt
  have hr : IntOp.remsi .vector (BitVec.ofNat 32 n.val) 256#32 = BitVec.ofNat 32 (n.val % 256) := by
    have e : (BitVec.ofNat 32 n.val).toNat = n.val := by rw [BitVec.toNat_ofNat]; omega
    apply BitVec.eq_of_toNat_eq
    refine (IntOp.toNat_remsi .vector (by omega) 256 (by omega) (by omega)).trans ?_
    rw [e, BitVec.toNat_ofNat]
    omega
  have h256 : Scalar.select (Scalar.cmpi .eq 256#32 0#32) 1#32 256#32 = 256#32 := rfl
  pointwise [k0_pay9]
  rw [h256, hr]
  exact mask_small ⟨n.val % 256, Nat.mod_lt _ (by omega)⟩

/-- The first feature map with its margin's columns set to zero, read at a place. -/
theorem hidden_at (x : FVec Ideal S1x1x58112 .f32) (w : FVec Ideal S16x9 .f32) (b : FVec Ideal S1x16 .f32)
    (o : Fin 16) (n : Fin 57344) :
    (Body.hidden (F := Ideal) x w b (ix2 o n) : EReal) = if n.val % 256 < 224 then
      layer (b (ix2 0 o)) fun dy dx => w (ix2 o ⟨3 * dy.val + dx.val, by omega⟩)
        * x (ix3 0 0 ⟨dy.val * 256 + dx.val + n.val, by omega⟩) else 0 := by
  pointwise [Body.hidden, k0_pay12, k0_pay8, k0_pay4, k0_pay5, k0_pay6, k0_pay7, mask_at]
  refine if_congr Iff.rfl ?_ rfl
  simp [layer, nine]

/-- The rows between the two stretches of zeros are the first feature map through a margin of zeros. -/
theorem hiddenRows_at (x : FVec Ideal S1x1x58112 .f32) (w : FVec Ideal S16x9 .f32) (b : FVec Ideal S1x16 .f32)
    (o : Fin 16) (q : Fin 58112) (hq : q.val % 256 ≤ 225) (hq' : q.val / 256 ≤ 225) :
    (Body.hiddenRows (F := Ideal) x w b (ix2 o q) : EReal)
      = edge (fun r k => layer (b (ix2 0 o)) fun dy dx => w (ix2 o ⟨3 * dy.val + dx.val, by omega⟩)
          * x (ix3 0 0 ⟨dy.val * 256 + dx.val + (r.val * 256 + k.val), by omega⟩)) (q.val / 256) (q.val % 256) := by
  unfold Body.hiddenRows
  have hc : ∃ p ∈ ([⟨Rect.unit ![0, 257] ![16, 57344] inb_S16x58112_S16x57344_0_257, Body.hidden (F := Ideal) x w b⟩,
     ⟨Rect.unit ![0, 57601] ![16, 511] inb_S16x58112_S16x511_0_57601, k0_pay11 (F := Ideal)⟩,
     ⟨Rect.unit ![0, 0] ![16, 257] inb_S16x58112_S16x257_0_0, k0_pay10 (F := Ideal)⟩] :
        List ((r : Rect S16x58112) × (r.shape.Idx → Elt Ideal .f32))), (ix2 o q : S16x58112.Idx) ∈ p.1.set := by
    have ho := o.isLt
    have hq2 := q.isLt
    by_cases h1 : q.val < 257
    · refine ⟨_, List.mem_cons_of_mem _ (List.mem_cons_of_mem _ List.mem_cons_self), ?_⟩
      refine (Rect.mem_set_unit (inb := inb_S16x58112_S16x257_0_0)).2 (Fin.forall_fin_two.2 ⟨?_, ?_⟩)
      · show 0 ≤ o.val ∧ o.val < 0 + 16
        omega
      · show 0 ≤ q.val ∧ q.val < 0 + 257
        omega
    by_cases h2 : q.val < 57601
    · refine ⟨_, List.mem_cons_self, ?_⟩
      refine (Rect.mem_set_unit (inb := inb_S16x58112_S16x57344_0_257)).2 (Fin.forall_fin_two.2 ⟨?_, ?_⟩)
      · show 0 ≤ o.val ∧ o.val < 0 + 16
        omega
      · show 257 ≤ q.val ∧ q.val < 257 + 57344
        omega
    · refine ⟨_, List.mem_cons_of_mem _ List.mem_cons_self, ?_⟩
      refine (Rect.mem_set_unit (inb := inb_S16x58112_S16x511_0_57601)).2 (Fin.forall_fin_two.2 ⟨?_, ?_⟩)
      · show 0 ≤ o.val ∧ o.val < 0 + 16
        omega
      · show 57601 ≤ q.val ∧ q.val < 57601 + 511
        omega
  canon_tiles y h using hc
  · idx_vars y
    obtain rfl : o = y0 := Fin.ext h0
    refine (hidden_at x w b o y1).trans ?_
    by_cases hm : y1.val % 256 < 224
    · rw [if_pos hm, edge_in _ _ _ ⟨y1.val / 256, by omega⟩ ⟨y1.val % 256, hm⟩ (by simp only [h1]; omega)
        (by simp only [h1]; omega)]
      refine layer_congr rfl fun dy dx => ?_
      refine congrArg (fun z => _ * x (ix3 0 0 z)) (Fin.ext ?_)
      simp only
      omega
    · rw [if_neg hm, edge_out _ _ _ (by omega)]
  · idx_vars y
    rw [edge_out _ _ _ (by omega)]
    pointwise [k0_pay11]
  · idx_vars y
    rw [edge_out _ _ _ (by omega)]
    pointwise [k0_pay10]

/-- The second convolution, read at a pixel. -/
theorem features_at (h : FVec Ideal S16x58112 .f32) (w : FVec Ideal S9x16x16 .f32) (b : FVec Ideal S1x16 .f32)
    (o : Fin 16) (r k : Fin 224) :
    (Body.features (F := Ideal) h w b (ix3 o r k) : EReal)
      = layer (b (ix2 0 o)) fun dy dx => ∑ i : Fin 16, w (ix3 ⟨3 * dy.val + dx.val, by omega⟩ o i)
          * h (ix2 i ⟨dy.val * 256 + dx.val + (r.val * 256 + k.val), by omega⟩) := by
  pointwise [Body.features, k0_pay13, k0_pay14, k0_pay15, k0_pay16, Body.from_, Body.tap]
  simp [layer, nine]

/-- The first weights, read at a tap. -/
theorem taps1_at (w : FVec Ideal S16x1x3x3 .f32) (o : Fin 16) (dy dx : Fin 3) :
    Blocks.taps1 w (ix2 o ⟨3 * dy.val + dx.val, by omega⟩) = w (ix4 o 0 dy dx) := by
  have e1 : (3 * dy.val + dx.val) / 3 = dy.val := by omega
  have e2 : (3 * dy.val + dx.val) % 3 = dx.val := by omega
  pointwise [Blocks.taps1, e1, e2]

/-- The second weights, read at a tap. -/
theorem taps2_at (w : FVec Ideal S16x16x3x3 .f32) (o i : Fin 16) (dy dx : Fin 3) :
    Blocks.taps2 w (ix3 ⟨3 * dy.val + dx.val, by omega⟩ o i) = w (ix4 o i dy dx) := by
  have e1 : (3 * dy.val + dx.val) / 3 = dy.val := by omega
  have e2 : (3 * dy.val + dx.val) % 3 = dx.val := by omega
  pointwise [Blocks.taps2, e1, e2]

/-- A bias row, read at a channel. -/
theorem biasRow_at (b : FVec Ideal S16 .f32) (o : Fin 16) : Blocks.biasRow b (ix2 0 o) = b (ix1 o) := by
  pointwise [Blocks.biasRow]

/-- The kernel's feature map is the second convolution of the first one. -/
theorem featMap_at (x : FVec Ideal S2x1x224x224 .f32) (w1 : FVec Ideal S16x1x3x3 .f32) (b1 : FVec Ideal S16 .f32)
    (w2 : FVec Ideal S16x16x3x3 .f32) (b2 : FVec Ideal S16 .f32) (e : Fin 2) (o : Fin 16) (r k : Fin 224) :
    (Body.featMap (F := Ideal) x w1 b1 w2 b2 e (ix3 o r k) : EReal)
      = second (b2 (ix1 o)) (fun i dy dx => w2 (ix4 o i dy dx))
          (fun i => first (b1 (ix1 i)) (fun dy dx => w1 (ix4 i 0 dy dx)) fun r k => x (ix4 e 0 r k)) r k := by
  refine (features_at _ _ _ o r k).trans (layer_congr (biasRow_at b2 o) fun dy dx => ?_)
  refine Finset.sum_congr rfl fun i _ => ?_
  rw [taps2_at]
  refine congrArg (w2 (ix4 o i dy dx) * ·) ?_
  refine (hiddenRows_at _ _ _ i _ (by simp only; omega) (by simp only; omega)).trans ?_
  have e1 : (dy.val * 256 + dx.val + (r.val * 256 + k.val)) / 256 = r.val + dy.val := by omega
  have e2 : (dy.val * 256 + dx.val + (r.val * 256 + k.val)) % 256 = k.val + dx.val := by omega
  simp only [e1, e2]
  refine congrArg (fun g => edge g _ _) (funext fun r' => funext fun k' => ?_)
  refine layer_congr (biasRow_at b1 i) fun dy' dx' => ?_
  rw [taps1_at]
  refine congrArg (w1 (ix4 i 0 dy' dx') * ·) ?_
  have e3 : (dy'.val * 256 + dx'.val + (r'.val * 256 + k'.val)) / 256 = r'.val + dy'.val := by omega
  have e4 : (dy'.val * 256 + dx'.val + (r'.val * 256 + k'.val)) % 256 = k'.val + dx'.val := by omega
  exact (depthRows_at x e _).trans (congrArg₂ (edge _) e3 e4)

end Cert.KernelIdeal.Conv
-- ==== Proof.Least.lean ====
module

public import Idealize.ShloMosaic.Lib.Pointwise

/-! # The least distance and its index

Pairs of a distance and a word, ordered by the distance first and the word second.  A least pair of a list is unique,
so any two ways of finding one agree. -/

@[expose] public section

noncomputable section

namespace Cert.Least

/-- A distance with its index. -/
abbrev Pair : Type := EReal × BitVec 32

/-- The order: the smaller distance first, then the smaller index. -/
def Le (p q : Pair) : Prop := p.1 < q.1 ∨ (p.1 = q.1 ∧ p.2.toInt ≤ q.2.toInt)

theorem Le.refl (p : Pair) : Le p p := Or.inr ⟨rfl, le_rfl⟩

theorem Le.trans {p q r : Pair} (h : Le p q) (h' : Le q r) : Le p r := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

theorem Le.antisymm {p q : Pair} (h : Le p q) (h' : Le q p) : p = q := by
  rcases h with h | ⟨h, hi⟩ <;> rcases h' with h' | ⟨h', hi'⟩
  · exact absurd (h.trans h') (lt_irrefl _)
  · exact absurd (h' ▸ h) (lt_irrefl _)
  · exact absurd (h ▸ h') (lt_irrefl _)
  · exact Prod.ext h (BitVec.eq_of_toInt_eq (le_antisymm hi hi'))

/-- A choice of the smaller of two pairs. -/
def Chooses (f : Pair → Pair → Pair) : Prop := ∀ a b, (f a b = a ∨ f a b = b) ∧ Le (f a b) a ∧ Le (f a b) b

/-- Choosing along a list finds a least one of its members and the first. -/
theorem fold_least {f : Pair → Pair → Pair} (hf : Chooses f) : ∀ (L : List Pair) (a : Pair),
    L.foldl f a ∈ a :: L ∧ ∀ q ∈ a :: L, Le (L.foldl f a) q
  | [], a => ⟨List.mem_cons_self, fun q hq => by
      obtain rfl : q = a := by simpa using hq
      exact Le.refl _⟩
  | b :: L, a => by
      obtain ⟨hm, hl⟩ := fold_least hf L (f a b)
      obtain ⟨hc, ha, hb⟩ := hf a b
      have h0 := hl _ List.mem_cons_self
      refine ⟨?_, fun q hq => ?_⟩
      · rcases List.mem_cons.1 hm with e | e
        · rw [List.foldl_cons, e]
          rcases hc with e | e <;> rw [e] <;> simp
        · exact List.mem_cons_of_mem _ (List.mem_cons_of_mem _ e)
      · rcases List.mem_cons.1 hq with rfl | hq
        · exact h0.trans ha
        rcases List.mem_cons.1 hq with rfl | hq
        · exact h0.trans hb
        · exact hl _ (List.mem_cons_of_mem _ hq)

/-- The pair of the `k`-th distance. -/
def at_ (d : ℕ → EReal) (k : ℕ) : Pair := (d k, BitVec.ofNat 32 k)

/-- A least pair of the first distances, `0 … n`. -/
def IsLeast (d : ℕ → EReal) (n : ℕ) (p : Pair) : Prop := (∃ k ≤ n, p = at_ d k) ∧ ∀ k ≤ n, Le p (at_ d k)

/-- There is at most one least pair. -/
theorem IsLeast.unique {d : ℕ → EReal} {n : ℕ} {p q : Pair} (hp : IsLeast d n p) (hq : IsLeast d n q) : p = q := by
  obtain ⟨⟨k, hk, rfl⟩, hp⟩ := hp
  obtain ⟨⟨l, hl, rfl⟩, hq⟩ := hq
  exact (hp l hl).antisymm (hq k hk)

/-- One more distance: the new pair if it is strictly nearer, the old one otherwise. -/
theorem IsLeast.succ {d : ℕ → EReal} {n : ℕ} (hn : n < 31) {p : Pair} (hp : IsLeast d n p) :
    IsLeast d (n + 1) (if d (n + 1) < p.1 then at_ d (n + 1) else p) := by
  obtain ⟨⟨k, hk, e⟩, hp⟩ := hp
  split
  · next h =>
    refine ⟨⟨n + 1, le_rfl, rfl⟩, fun l hl => ?_⟩
    rcases Nat.lt_or_ge n l with hl' | hl'
    · obtain rfl : l = n + 1 := by omega
      exact Le.refl _
    · exact Le.trans (Or.inl h) (hp l hl')
  · next h =>
    refine ⟨⟨k, by omega, e⟩, fun l hl => ?_⟩
    rcases Nat.lt_or_ge n l with hl' | hl'
    · obtain rfl : l = n + 1 := by omega
      rcases lt_or_eq_of_le (not_lt.1 h) with h | h
      · exact Or.inl h
      · refine Or.inr ⟨h, ?_⟩
        rw [e]
        simp only [at_]
        rw [BitVec.toInt_eq_toNat_of_lt (by rw [BitVec.toNat_ofNat]; omega),
          BitVec.toInt_eq_toNat_of_lt (by rw [BitVec.toNat_ofNat]; omega), BitVec.toNat_ofNat, BitVec.toNat_ofNat]
        omega
    · exact hp l hl'

/-- Choosing along the list of all distances, from the greatest value and index zero on, finds the least pair. -/
theorem fold_isLeast {f : Pair → Pair → Pair} (hf : Chooses f) (d : ℕ → EReal) (n : ℕ) (L : List Pair)
    (hL : ∀ q, q ∈ L ↔ ∃ k ≤ n, q = at_ d k) : IsLeast d n (L.foldl f (⊤, 0#32)) := by
  obtain ⟨hm, hl⟩ := fold_least hf L (⊤, 0#32)
  have hle : ∀ k ≤ n, Le (L.foldl f (⊤, 0#32)) (at_ d k) := fun k hk =>
    hl _ (List.mem_cons_of_mem _ ((hL _).2 ⟨k, hk, rfl⟩))
  refine ⟨?_, hle⟩
  rcases List.mem_cons.1 hm with e | e
  · have h0 := hle 0 (Nat.zero_le n)
    rw [e] at h0 ⊢
    have h1 : Le (at_ d 0) (⊤, 0#32) := by
      rcases lt_or_eq_of_le (le_top : d 0 ≤ ⊤) with h | h
      · exact Or.inl h
      · exact Or.inr ⟨h, le_rfl⟩
    exact ⟨0, Nat.zero_le n, h0.antisymm h1⟩
  · exact (hL _).1 e

end Cert.Least
-- ==== Proof.KernelNearest.lean ====
module

public import proofs.«01_k».proof.Proof.Body
public import proofs.«01_k».proof.Proof.Least

/-! # The kernel's index of the least distance

Over the extended reals. -/

@[expose] public section

set_option maxRecDepth 16384

noncomputable section

namespace Cert.KernelIdeal.Nearest

open Cert.KernelIdeal Cert.KernelIdeal.Gen Idealize.ShloMosaic Idealize.ShloMosaic.TcCoe Idealize.SL.Sem
open Cert.Least

/-- The distances of one pixel. -/
def distAt (a : FVec Ideal S224x224 .f32) (b : FVec Ideal S32 .f32) (i : S224x224.Idx) (k : ℕ) : EReal :=
  Search.dist (F := Ideal) a b k i

/-- The search's least distance and its index form the least pair. -/
theorem search_least (a : FVec Ideal S224x224 .f32) (b : FVec Ideal S32 .f32) (i : S224x224.Idx) :
    ∀ n ≤ 31, IsLeast (distAt a b i) n (Search.best (F := Ideal) a b n i, Search.index (F := Ideal) a b n i)
  | 0, _ => ⟨⟨0, le_rfl, rfl⟩, fun k hk => by
      obtain rfl : k = 0 := by omega
      exact Le.refl _⟩
  | n + 1, hn => by
      have h := (search_least a b i n (by omega)).succ (by omega)
      have e : ((Search.best (F := Ideal) a b (n + 1) i, Search.index (F := Ideal) a b (n + 1) i) : Pair)
          = if distAt a b i (n + 1) < Search.best (F := Ideal) a b n i then at_ (distAt a b i) (n + 1)
            else (Search.best (F := Ideal) a b n i, Search.index (F := Ideal) a b n i) := by
        have hc : cmpf .olt (Search.dist (F := Ideal) a b (n + 1)) (Search.best a b n) i
            = BitVec.ofBool (decide (distAt a b i (n + 1) < Search.best (F := Ideal) a b n i)) := rfl
        show (Scalar.select (cmpf .olt (Search.dist (F := Ideal) a b (n + 1)) (Search.best a b n) i) _ _,
          Scalar.select (cmpf .olt (Search.dist (F := Ideal) a b (n + 1)) (Search.best a b n) i) _ _) = _
        rw [hc]
        by_cases h : distAt a b i (n + 1) < Search.best (F := Ideal) a b n i
        · rw [if_pos h, decide_eq_true h]
          rfl
        · rw [if_neg h, decide_eq_false h]
          rfl
      rw [e]
      exact h

/-- The distance of a pixel's depth to a hypothesis. -/
theorem dist_at (x : FVec Ideal S2x1x224x224 .f32) (h : FVec Ideal S2x32 .f32) (e : Fin 2) (r c : Fin 224) (k : ℕ) :
    distAt (k0_pay17 (F := Ideal) fun j => x (ix4 e (j 1) (j 2) (j 3)))
      (k0_pay18 (F := Ideal) fun j => Blocks.hyps h (ix3 e (j 1) (j 2))) (ix2 r c) k
      = max (x (ix4 e 0 r c) - h (ix2 e (Fin.ofNat 32 k))) (-(x (ix4 e 0 r c) - h (ix2 e (Fin.ofNat 32 k)))) := by
  unfold distAt
  pointwise [Search.dist, Search.hyp, k0_pay17, k0_pay18, Blocks.hyps]
  rw [Ideal.absf_def]

/-- The kernel's index at a pixel is the index of its least pair. -/
theorem nearMap_least (x : FVec Ideal S2x1x224x224 .f32) (h : FVec Ideal S2x32 .f32) (e : Fin 2) (r c : Fin 224) :
    ∃ p, IsLeast (fun k => max (x (ix4 e 0 r c) - h (ix2 e (Fin.ofNat 32 k)))
      (-(x (ix4 e 0 r c) - h (ix2 e (Fin.ofNat 32 k))))) 31 p
      ∧ Body.nearMap (F := Ideal) x h e (ix2 r c) = p.2 := by
  have hl := search_least (k0_pay17 (F := Ideal) fun j => x (ix4 e (j 1) (j 2) (j 3)))
    (k0_pay18 (F := Ideal) fun j => Blocks.hyps h (ix3 e (j 1) (j 2))) (ix2 r c) 31 le_rfl
  have hd := funext (dist_at x h e r c)
  exact ⟨_, hd ▸ hl, by unfold Body.nearMap; dsimp only⟩

end Cert.KernelIdeal.Nearest
-- ==== Proof.KernelResult.lean ====
module

public import proofs.«01_k».proof.Proof.Planes
public import proofs.«01_k».proof.Proof.KernelConv
public import proofs.«01_k».proof.Proof.KernelNearest

/-! # The kernel's result at one position

Over the extended reals. -/

@[expose] public section

set_option maxRecDepth 16384

noncomputable section

namespace Cert.KernelIdeal.Whole

open Cert.KernelIdeal Cert.KernelIdeal.Gen Idealize.ShloMosaic Idealize.ShloMosaic.TcCoe Idealize.SL.Sem
open Cert.Least Cert.Taps

/-- The result at one position, in terms of the least pair of the pixel. -/
theorem result_at (x : FVec Ideal S2x1x224x224 .f32) (h : FVec Ideal S2x32 .f32) (w1 : FVec Ideal S16x1x3x3 .f32)
    (b1 : FVec Ideal S16 .f32) (w2 : FVec Ideal S16x16x3x3 .f32) (b2 : FVec Ideal S16 .f32)
    (e : Fin 2) (o : Fin 16) (d : Fin 32) (r k : Fin 224) :
    ∃ p, IsLeast (fun k' => max (x (ix4 e 0 r k) - h (ix2 e (Fin.ofNat 32 k')))
      (-(x (ix4 e 0 r k) - h (ix2 e (Fin.ofNat 32 k'))))) 31 p
    ∧ (Planes.filled (F := Ideal) (Body.nearMap x h) (Body.featMap x w1 b1 w2 b2) (ix5 e o d r k) : EReal)
      = if p.2 = BitVec.ofNat 32 d.val then
          second (b2 (ix1 o)) (fun i dy dx => w2 (ix4 o i dy dx))
            (fun i => first (b1 (ix1 i)) (fun dy dx => w1 (ix4 i 0 dy dx)) fun r k => x (ix4 e 0 r k)) r k
        else 0 := by
  obtain ⟨p, hp, hn⟩ := Nearest.nearMap_least x h e r k
  refine ⟨p, hp, ?_⟩
  have ho : (Planes.filled (F := Ideal) (Body.nearMap x h) (Body.featMap x w1 b1 w2 b2) (ix5 e o d r k) : EReal)
      = if Body.nearMap (F := Ideal) x h e (ix2 r k) = BitVec.ofNat 32 d.val then
          Body.featMap (F := Ideal) x w1 b1 w2 b2 e (ix3 o r k) else Ideal.ofBits .f32 0x00000000#32 := rfl
  rw [ho, hn, Conv.featMap_at, Ideal.ofBits_zero_f32]

end Cert.KernelIdeal.Whole
-- ==== Proof.Lands.lean ====
module

public import Idealize.ShloMosaic.Lib.Routing.OpsSet
public import Idealize.ShloMosaic.Lib.Pointwise

/-! # Where a scatter by four index words lands

At any extents. -/

@[expose] public section

namespace Cert.Lands

open Idealize.ShloMosaic

variable {P Q R S A B C w : ℕ}

/-- The shapes' conditions on such a scatter, no update axis being a window's. -/
abbrev Fits (P Q R S A B C : ℕ) : Prop :=
  ScatterDims.WF ⟨4, ![P, Q, R, S]⟩ ⟨4, ![A, B, C, 4]⟩ ⟨3, ![A, B, C]⟩ [] [0, 1, 2, 3] [0, 1, 2, 3] 3

/-- A write of scalars, the target's four axes given by the last axis of the table of words. -/
abbrev pointwise4 (wf : Fits P Q R S A B C) :
    ScatterDims ⟨4, ![P, Q, R, S]⟩ ⟨4, ![A, B, C, 4]⟩ ⟨3, ![A, B, C]⟩ :=
  ⟨[], [0, 1, 2, 3], [0, 1, 2, 3], 3, wf⟩

/-- The coordinate on axis `q` of an update's target is word `q` of the update's row, read signed. -/
theorem start_word (wf : Fits P Q R S A B C) (idx : IVec ⟨4, ![A, B, C, 4]⟩ w) (a : Fin A) (b : Fin B) (c : Fin C)
    (q : Fin 4) : (pointwise4 wf).start (ix3 a b c) idx q + ((pointwise4 wf).window (ix3 a b c) q : Int)
      = (idx (ix4 a b c q)).toInt := by
  have word : ∀ n : Fin 4, (pointwise4 wf).siIdx (ix3 a b c) n = ix4 a b c n := fun n => by
    funext t
    fin_cases t <;> rfl
  match q with
  | ⟨0, _⟩ => exact (Int.add_zero _).trans (congrArg (fun i => (idx i).toInt) (word 0))
  | ⟨1, _⟩ => exact (Int.add_zero _).trans (congrArg (fun i => (idx i).toInt) (word 1))
  | ⟨2, _⟩ => exact (Int.add_zero _).trans (congrArg (fun i => (idx i).toInt) (word 2))
  | ⟨3, _⟩ => exact (Int.add_zero _).trans (congrArg (fun i => (idx i).toInt) (word 3))

/-- Update `(a, b, c)` lands at `ι` exactly when its four words, read signed, are `ι`'s coordinates. -/
theorem lands (wf : Fits P Q R S A B C) (idx : IVec ⟨4, ![A, B, C, 4]⟩ w) (a : Fin A) (b : Fin B) (c : Fin C)
    (ι : Shape.Idx ⟨4, ![P, Q, R, S]⟩) :
    (pointwise4 wf).resultIdx? (ix3 a b c) idx = some ι ↔ ∀ q : Fin 4, (idx (ix4 a b c q)).toInt = ((ι q).val : Int) :=
  (Routing.resultIdx?_eq_some _ _ _ _).trans
    (forall_congr' fun q => by rw [← start_word wf idx a b c q])

end Cert.Lands
-- ==== Proof.Columns.lean ====
module

public import proofs.«01_k».proof.Proof.RefVals
public import proofs.«01_k».proof.Proof.Lands

/-! # The reference's index columns, at one pixel -/

@[expose] public section

set_option maxRecDepth 16384

noncomputable section

namespace Cert.ReferenceIdeal.Columns

open Cert.ReferenceIdeal Cert.ReferenceIdeal.Gen Idealize.ShloMosaic Idealize.ShloMosaic.TcCoe Idealize.SL.Sem
open Cert.ReferenceIdeal.Line

/-- The wrap of an index leaves a small word as it is. -/
theorem wrap (n : ℕ) (hn : n < 2 ^ 31) (a : BitVec 32) :
    Scalar.select (IntOp.cmpi .slt (BitVec.ofNat 32 n) 0#32) a (BitVec.ofNat 32 n) = BitVec.ofNat 32 n := by
  rw [WordCmp.cmpi_slt_zero, WordCmp.select_decide, if_neg]
  rw [BitVec.toNat_ofNat]
  omega

theorem batch_at (e : Fin 2) (r k : Fin 224) : colBatch (ix4 e r k (0 : Fin 1)) = BitVec.ofNat 32 e.val := by
  pointwise [colBatch]
  exact wrap _ (by omega) _

theorem row_at (e : Fin 2) (r k : Fin 224) : colRow (ix4 e r k (0 : Fin 1)) = BitVec.ofNat 32 r.val := by
  pointwise [colRow]
  exact wrap _ (by omega) _

theorem col_at (e : Fin 2) (r k : Fin 224) : colCol (ix4 e r k (0 : Fin 1)) = BitVec.ofNat 32 k.val := by
  pointwise [colCol]
  exact wrap _ (by omega) _

theorem hyp_at (i : IVec S2x224x224 32) (e : Fin 2) (r k : Fin 224) (n : ℕ) (hn : n ≤ 31)
    (hi : i (ix3 e r k) = BitVec.ofNat 32 n) : colHyp i (ix4 e r k (0 : Fin 1)) = BitVec.ofNat 32 n := by
  pointwise [colHyp]
  rw [hi]
  exact wrap _ (by omega) _

/-- The four columns side by side, at one pixel. -/
def table (b d r k : IVec S2x224x224x1 32) : IVec S2x224x224x4 32 :=
  concatenate S2x224x224x4 3 [⟨S2x224x224x1, b⟩, ⟨S2x224x224x1, d⟩, ⟨S2x224x224x1, r⟩, ⟨S2x224x224x1, k⟩]
    concatenates_S2x224x224x1_S2x224x224x1_S2x224x224x1_S2x224x224x1_S2x224x224x4_d3

theorem table_0 (b d r k : IVec S2x224x224x1 32) (e : Fin 2) (i j : Fin 224) :
    table b d r k (ix4 e i j (0 : Fin 4)) = b (ix4 e i j (0 : Fin 1)) := by
  pointwise [table]
theorem table_1 (b d r k : IVec S2x224x224x1 32) (e : Fin 2) (i j : Fin 224) :
    table b d r k (ix4 e i j (1 : Fin 4)) = d (ix4 e i j (0 : Fin 1)) := by
  pointwise [table]
theorem table_2 (b d r k : IVec S2x224x224x1 32) (e : Fin 2) (i j : Fin 224) :
    table b d r k (ix4 e i j (2 : Fin 4)) = r (ix4 e i j (0 : Fin 1)) := by
  pointwise [table]
theorem table_3 (b d r k : IVec S2x224x224x1 32) (e : Fin 2) (i j : Fin 224) :
    table b d r k (ix4 e i j (3 : Fin 4)) = k (ix4 e i j (0 : Fin 1)) := by
  pointwise [table]

end Cert.ReferenceIdeal.Columns
-- ==== Proof.OneHot.lean ====
module

public import proofs.«01_k».proof.Proof.Columns

/-! # The reference's one-hot volume, and its product with a feature map

Over the extended reals. -/

@[expose] public section

set_option maxRecDepth 16384

noncomputable section

namespace Cert.ReferenceIdeal.OneHot

open Cert.ReferenceIdeal Cert.ReferenceIdeal.Gen Idealize.ShloMosaic Idealize.ShloMosaic.TcCoe Idealize.SL.Sem
open Cert.ReferenceIdeal.Line Cert.ReferenceIdeal.Columns

variable {F : FTy → Type} [FloatOps F]

theorem toInt_small (n : ℕ) (hn : n < 2 ^ 31) : (BitVec.ofNat 32 n).toInt = (n : Int) := by
  rw [BitVec.toInt_eq_toNat_of_lt (by rw [BitVec.toNat_ofNat]; omega), BitVec.toNat_ofNat,
    Nat.mod_eq_of_lt (by omega)]

/-- The words of the table of an index map whose entries are small. -/
def InRange (i : IVec S2x224x224 32) (n : Fin 2 → Fin 224 → Fin 224 → ℕ) : Prop :=
  ∀ e r k, n e r k ≤ 31 ∧ i (ix3 e r k) = BitVec.ofNat 32 (n e r k)

/-- Where one pixel's write lands. -/
theorem lands_at (i : IVec S2x224x224 32) (n : Fin 2 → Fin 224 → Fin 224 → ℕ) (hi : InRange i n)
    (e : Fin 2) (r k : Fin 224) (e' : Fin 2) (d : Fin 32) (r' k' : Fin 224) :
    scatter_S2x32x224x224_S2x224x224x4_S2x224x224_n_0123_0123_3.resultIdx? (ix3 e r k)
        (table colBatch (colHyp i) colRow colCol) = some (ix4 e' d r' k')
      ↔ e = e' ∧ n e r k = d.val ∧ r = r' ∧ k = k' := by
  refine (Cert.Lands.lands scatter_S2x32x224x224_S2x224x224x4_S2x224x224_n_0123_0123_3_wf _ e r k _).trans ?_
  obtain ⟨h31, hw⟩ := hi e r k
  have t0 : (table colBatch (colHyp i) colRow colCol (ix4 e r k (0 : Fin 4))).toInt = (e.val : Int) := by
    rw [table_0, batch_at, toInt_small _ (by omega)]
  have t1 : (table colBatch (colHyp i) colRow colCol (ix4 e r k (1 : Fin 4))).toInt = (n e r k : Int) := by
    rw [table_1, hyp_at i e r k _ h31 hw, toInt_small _ (by omega)]
  have t2 : (table colBatch (colHyp i) colRow colCol (ix4 e r k (2 : Fin 4))).toInt = (r.val : Int) := by
    rw [table_2, row_at, toInt_small _ (by omega)]
  have t3 : (table colBatch (colHyp i) colRow colCol (ix4 e r k (3 : Fin 4))).toInt = (k.val : Int) := by
    rw [table_3, col_at, toInt_small _ (by omega)]
  constructor
  · intro h
    have h0 := t0.symm.trans (h 0)
    have h1 := t1.symm.trans (h 1)
    have h2 := t2.symm.trans (h 2)
    have h3 := t3.symm.trans (h 3)
    exact ⟨Fin.ext (by exact_mod_cast h0), by exact_mod_cast h1, Fin.ext (by exact_mod_cast h2),
      Fin.ext (by exact_mod_cast h3)⟩
  · rintro ⟨rfl, h1, rfl, rfl⟩ q
    match q with
    | ⟨0, _⟩ => exact t0
    | ⟨1, _⟩ => exact t1.trans (by rw [h1]; rfl)
    | ⟨2, _⟩ => exact t2
    | ⟨3, _⟩ => exact t3

/-- The volume holds one where the hypothesis is the pixel's, zero elsewhere. -/
theorem oneHot_at (i : IVec S2x224x224 32) (n : Fin 2 → Fin 224 → Fin 224 → ℕ) (hi : InRange i n)
    (e : Fin 2) (d : Fin 32) (r k : Fin 224) :
    oneHot (F := F) i (ix4 e d r k)
      = if n e r k = d.val then FloatOps.ofBits .f32 0x3F800000#32 else FloatOps.ofBits .f32 0#32 := by
  split
  · next h =>
    exact Routing.scatter_set_hit _ _ (table colBatch (colHyp i) colRow colCol) _ _ _ (fun _ _ => rfl) (ix3 e r k)
      ((lands_at i n hi e r k e d r k).2 ⟨rfl, h, rfl, rfl⟩)
  · next h =>
    refine Routing.scatter_set_miss _ _ (table colBatch (colHyp i) colRow colCol) _ _ fun j hj => h ?_
    rw [eq_ix3 j] at hj
    obtain ⟨h0, h1, h2, h3⟩ := (lands_at i n hi _ _ _ e d r k).1 hj
    rw [h0, h2, h3] at h1
    exact h1

/-- The product at one position. -/
theorem spread_at (f : FVec F S2x16x224x224 .f32) (v : FVec F S2x32x224x224 .f32) (e : Fin 2) (o : Fin 16)
    (d : Fin 32) (r k : Fin 224) :
    spread f v (ix5 e o d r k) = FloatOps.mulf (f (ix4 e o r k)) (v (ix4 e d r k)) := by
  pointwise [spread]

/-- Placing a feature map on the one-hot volume of an index map. -/
theorem spread_oneHot (f : FVec Ideal S2x16x224x224 .f32) (i : IVec S2x224x224 32)
    (n : Fin 2 → Fin 224 → Fin 224 → ℕ) (hi : InRange i n) (e : Fin 2) (o : Fin 16) (d : Fin 32) (r k : Fin 224) :
    (spread (F := Ideal) f (oneHot (F := Ideal) i) (ix5 e o d r k) : EReal)
      = if n e r k = d.val then f (ix4 e o r k) else 0 := by
  rw [spread_at, oneHot_at i n hi]
  split
  · show (f (ix4 e o r k) : EReal) * Ideal.ofBits .f32 0x3F800000#32 = _
    rw [Ideal.ofBits_one_f32, mul_one]
  · show (f (ix4 e o r k) : EReal) * Ideal.ofBits .f32 0x00000000#32 = _
    rw [Ideal.ofBits_zero_f32, mul_zero]

end Cert.ReferenceIdeal.OneHot
-- ==== Proof.RefConv.lean ====
module

public import proofs.«01_k».proof.Proof.RefVals
public import proofs.«01_k».proof.Proof.Taps

/-! # The reference's two convolutions, read at an index

Over the extended reals. -/

@[expose] public section

set_option maxRecDepth 16384

noncomputable section

namespace Cert.ReferenceIdeal.Conv

open Cert.ReferenceIdeal Cert.ReferenceIdeal.Gen Idealize.ShloMosaic Idealize.ShloMosaic.TcCoe Idealize.SL.Sem
open Cert.Taps Cert.ReferenceIdeal.Line

/-- The integer zero as a real. -/
theorem zero_word : (FloatOps.sitofp FTy.f32 0#32 : Ideal .f32) = (0 : EReal) := by
  show ((((0#32 : BitVec 32).toInt : ℤ) : ℝ) : EReal) = 0
  simp

/-- The depth map's margin, read at a place. -/
theorem margin1_at (x : FVec Ideal S2x1x224x224 .f32) (e : Fin 2) (r k : Fin 226) :
    (margin1 (F := Ideal) x (ix4 e 0 r k) : EReal) = edge (fun r k => x (ix4 e 0 r k)) r.val k.val := by
  pointwise [margin1]
  rw [zero_word]
  unfold edge
  by_cases h : (1 ≤ r.val ∧ r.val ≤ 224) ∧ 1 ≤ k.val ∧ k.val ≤ 224
  · rw [dif_pos h, dif_pos (by omega)]
  · rw [dif_neg h, dif_neg (by omega)]

/-- The feature map's margin, read at a place. -/
theorem margin2_at (x : FVec Ideal S2x16x224x224 .f32) (e : Fin 2) (i : Fin 16) (r k : Fin 226) :
    (margin2 (F := Ideal) x (ix4 e i r k) : EReal) = edge (fun r k => x (ix4 e i r k)) r.val k.val := by
  pointwise [margin2]
  rw [zero_word]
  unfold edge
  by_cases h : (1 ≤ r.val ∧ r.val ≤ 224) ∧ 1 ≤ k.val ∧ k.val ≤ 224
  · rw [dif_pos h, dif_pos (by omega)]
  · rw [dif_neg h, dif_neg (by omega)]

/-- The first layer, read at a pixel. -/
theorem layer1_at (x : FVec Ideal S2x1x224x224 .f32) (w : FVec Ideal S16x1x3x3 .f32) (b : FVec Ideal S16 .f32)
    (e : Fin 2) (o : Fin 16) (r k : Fin 224) :
    (biasRelu (F := Ideal) (sum1 x w) b (ix4 e o r k) : EReal)
      = first (b (ix1 o)) (fun dy dx => w (ix4 o 0 dy dx)) (fun r k => x (ix4 e 0 r k)) r k := by
  pointwise [biasRelu, sum1, tap1, margin1_at]
  simp [first, layer, nine, mul_comm, Nat.add_comm]

/-- The second layer, read at a pixel. -/
theorem layer2_at (x : FVec Ideal S2x16x224x224 .f32) (w : FVec Ideal S16x16x3x3 .f32) (b : FVec Ideal S16 .f32)
    (e : Fin 2) (o : Fin 16) (r k : Fin 224) :
    (biasRelu (F := Ideal) (sum2 x w) b (ix4 e o r k) : EReal)
      = second (b (ix1 o)) (fun i dy dx => w (ix4 o i dy dx)) (fun i r k => x (ix4 e i r k)) r k := by
  pointwise [biasRelu, sum2, tap2, margin2_at]
  simp [second, layer, nine, mul_comm, Nat.add_comm]

end Cert.ReferenceIdeal.Conv
-- ==== Proof.RefNearest.lean ====
module

public import proofs.«01_k».proof.Proof.RefVals
public import proofs.«01_k».proof.Proof.Least

/-! # The reference's index of the least distance

Over the extended reals. -/

@[expose] public section

set_option maxRecDepth 16384

noncomputable section

namespace Cert.ReferenceIdeal.Nearest

open Cert.ReferenceIdeal Cert.ReferenceIdeal.Gen Idealize.ShloMosaic Idealize.ShloMosaic.TcCoe Idealize.SL.Sem
open Cert.Least Cert.ReferenceIdeal.Line

/-- The reference's step keeps the smaller of two pairs. -/
theorem chooses : Chooses (reducer_argmin_f32_i32 (F := Ideal)) := by
  intro a b
  obtain ⟨v, i⟩ := a
  obtain ⟨w, j⟩ := b
  have hf : (reducer_argmin_f32_i32 (F := Ideal) (v, i) (w, j) : Pair)
      = if v < w then (v, i) else if v = w ∧ i.toInt < j.toInt then (w, i) else (w, j) := by
    have hs : IntOp.cmpi .slt i j = BitVec.ofBool (decide (i.toInt < j.toInt)) := by
      simp only [IntOp.cmpi, BitVec.slt_eq_decide]
    simp only [reducer_argmin_f32_i32, Ideal.cmpf_def, Ideal.cmp, hs]
    by_cases h1 : v < w <;> by_cases h2 : v = w <;> by_cases h3 : i.toInt < j.toInt <;>
      simp [h1, h2, h3, Scalar.select, IntOp.ori, IntOp.andi]
  rw [hf]
  by_cases h1 : v < w
  · rw [if_pos h1]
    exact ⟨Or.inl rfl, Le.refl _, Or.inl h1⟩
  rw [if_neg h1]
  by_cases h2 : v = w ∧ i.toInt < j.toInt
  · rw [if_pos h2]
    obtain ⟨rfl, h2⟩ := h2
    exact ⟨Or.inl rfl, Le.refl _, Or.inr ⟨rfl, h2.le⟩⟩
  rw [if_neg h2]
  refine ⟨Or.inr rfl, ?_, Le.refl _⟩
  rcases lt_or_eq_of_le (not_lt.1 h1) with h | h
  · exact Or.inl h
  · exact Or.inr ⟨h, not_lt.1 fun h3 => h2 ⟨h.symm, h3⟩⟩

/-- The distance of a pixel's depth to a hypothesis. -/
def dist (x : FVec Ideal S2x1x224x224 .f32) (h : FVec Ideal S2x32 .f32) (e : Fin 2) (r c : Fin 224) (k : ℕ) : EReal :=
  max (x (ix4 e 0 r c) - h (ix2 e (Fin.ofNat 32 k))) (-(x (ix4 e 0 r c) - h (ix2 e (Fin.ofNat 32 k))))

/-- The array of distances, read at an index. -/
theorem distances_at (x : FVec Ideal S2x1x224x224 .f32) (h : FVec Ideal S2x32 .f32) (e : Fin 2) (r c : Fin 224)
    (k : Fin 32) : (distances (F := Ideal) x h (ix4 e r c k) : EReal) = dist x h e r c k.val := by
  pointwise [distances, dist]
  rw [Ideal.absf_def, show Fin.ofNat 32 k.val = k from Fin.ext (Nat.mod_eq_of_lt k.isLt)]

/-- The pairs that a pixel's fold runs over: its distances with their indices. -/
theorem fiber (x : FVec Ideal S2x1x224x224 .f32) (h : FVec Ideal S2x32 .f32) (e : Fin 2) (r c : Fin 224) (q : Pair) :
    q ∈ Host.argReduceFiber (distances (F := Ideal) x h) (iotaInDim S2x224x224x32 32 3)
      reducesTo_S2x224x224x32_S2x224x224_d3 (ix3 e r c) ↔ ∃ k ≤ 31, q = at_ (dist x h e r c) k := by
  have hd : ∀ i : S2x224x224x32.Idx, reducesTo_S2x224x224x32_S2x224x224_d3.drop i = ix3 (i 0) (i 1) (i 2) := by
    intro i
    funext b
    apply Fin.ext
    fin_cases b
    · exact Shape.ReducesTo.drop_apply_val_of_eq _ i 0 0
    · exact Shape.ReducesTo.drop_apply_val_of_eq _ i 1 1
    · exact Shape.ReducesTo.drop_apply_val_of_eq _ i 2 2
  have hp : ∀ i : S2x224x224x32.Idx, (distances (F := Ideal) x h i, iotaInDim S2x224x224x32 32 3 i)
      = at_ (dist x h (i 0) (i 1) (i 2)) (i 3).val := by
    intro i
    refine Prod.ext ?_ rfl
    rw [eq_ix4 i]
    exact distances_at x h _ _ _ _
  unfold Host.argReduceFiber
  simp only [List.mem_map, List.mem_filter, List.mem_finRange, true_and, decide_eq_true_eq, hp]
  constructor
  · rintro ⟨n, hn, rfl⟩
    rw [hd] at hn
    generalize S2x224x224x32.rowMajor.symm n = i at hn
    refine ⟨(i 3).val, ?_, ?_⟩
    · have := (i 3).isLt
      have : (i 3).val < 32 := this
      omega
    · have e0 : i 0 = e := congrFun hn 0
      have e1 : i 1 = r := congrFun hn 1
      have e2 : i 2 = c := congrFun hn 2
      rw [e0, e1, e2]
  · rintro ⟨k, hk, rfl⟩
    refine ⟨S2x224x224x32.rowMajor (ix4 e r c ⟨k, by omega⟩), ?_, ?_⟩
    · rw [Equiv.symm_apply_apply, hd]
      rfl
    · rw [Equiv.symm_apply_apply]
      rfl

/-- The value the fold starts from is the greatest one. -/
theorem start : ((constant S_ .f32 0x7F800000#32 : FVec Ideal S_ .f32) (Shape.Idx.first h_S_),
    (constantI S_ 32 0#32) (Shape.Idx.first h_S_)) = ((⊤, 0#32) : Pair) := by
  refine Prod.ext ?_ rfl
  show Ideal.ofBits .f32 0x7F800000#32 = ⊤
  simp [Ideal.ofBits, Ideal.ieee]

/-- An index of least values, for arrays of any shape, is the index of the least pair of what its fold runs over. -/
theorem index_least {s t u : Shape} {axes : List (Fin s.rank)}
    (f : Ideal .f32 × BitVec 32 → Ideal .f32 × BitVec 32 → Ideal .f32 × BitVec 32) (x : FVec Ideal s .f32)
    (y : s.Idx → BitVec 32) (ix : u.Idx → Ideal .f32) (iy : u.Idx → BitVec 32) (h : s.ReducesTo axes t)
    (hu : 0 < u.numel) (j : t.Idx) (hf : Chooses f) (d : ℕ → EReal) (n : ℕ)
    (ha : (ix (Shape.Idx.first hu), iy (Shape.Idx.first hu)) = ((⊤, 0#32) : Pair))
    (hL : ∀ q : Pair, q ∈ Host.argReduceFiber x y h j ↔ ∃ k ≤ n, q = at_ d k) :
    ∃ p, IsLeast d n p ∧ (Host.argReduce f x y ix iy h hu j).2 = p.2 := by
  refine ⟨_, fold_isLeast hf d n _ hL, ?_⟩
  rw [Ideal.argReduce_eq_reduce2]
  refine congrArg Prod.snd ((Host.reduce2_eq_foldl_fiber _ _ _ _ _ _ _ j).trans ?_)
  exact congrArg (fun a => (Host.argReduceFiber x y h j).foldl f a) ha

/-- The reference's index map, opened. -/
theorem nearest_open {F : FTy → Type} [FloatOps F] (x : FVec F S2x1x224x224 .f32) (h : FVec F S2x32 .f32) :
    nearest (F := F) x h = fun j =>
      (Host.argReduce reducer_argmin_f32_i32 (distances x h) (iotaInDim S2x224x224x32 32 3)
        (constant S_ .f32 0x7F800000#32) (constantI S_ 32 0#32) reducesTo_S2x224x224x32_S2x224x224_d3 h_S_ j).2 := rfl

/-- The reference's index at a pixel is the index of its least pair. -/
theorem nearest_least (x : FVec Ideal S2x1x224x224 .f32) (h : FVec Ideal S2x32 .f32) (e : Fin 2) (r c : Fin 224) :
    ∃ p, IsLeast (dist x h e r c) 31 p ∧ nearest (F := Ideal) x h (ix3 e r c) = p.2 := by
  obtain ⟨p, hp, hq⟩ := index_least (reducer_argmin_f32_i32 (F := Ideal)) (distances (F := Ideal) x h)
    (iotaInDim S2x224x224x32 32 3) (constant S_ .f32 0x7F800000#32) (constantI S_ 32 0#32)
    reducesTo_S2x224x224x32_S2x224x224_d3 h_S_ (ix3 e r c) chooses (dist x h e r c) 31 start (fiber x h e r c)
  exact ⟨p, hp, (congrFun (nearest_open x h) (ix3 e r c)).trans hq⟩

end Cert.ReferenceIdeal.Nearest
-- ==== Proof.RefResult.lean ====
module

public import proofs.«01_k».proof.Proof.OneHot
public import proofs.«01_k».proof.Proof.RefConv
public import proofs.«01_k».proof.Proof.RefNearest

/-! # The reference's result at one position

Over the extended reals. -/

@[expose] public section

set_option maxRecDepth 16384

noncomputable section

namespace Cert.ReferenceIdeal.Whole

open Cert.ReferenceIdeal Cert.ReferenceIdeal.Gen Idealize.ShloMosaic Idealize.ShloMosaic.TcCoe Idealize.SL.Sem
open Cert.ReferenceIdeal.Line Cert.Least Cert.Taps

/-- The result at one position, in terms of the least pair of the pixel. -/
theorem result_at (x : FVec Ideal S2x1x224x224 .f32) (h : FVec Ideal S2x32 .f32) (w1 : FVec Ideal S16x1x3x3 .f32)
    (b1 : FVec Ideal S16 .f32) (w2 : FVec Ideal S16x16x3x3 .f32) (b2 : FVec Ideal S16 .f32)
    (e : Fin 2) (o : Fin 16) (d : Fin 32) (r k : Fin 224) (p : Pair)
    (hp : IsLeast (fun k' => max (x (ix4 e 0 r k) - h (ix2 e (Fin.ofNat 32 k')))
      (-(x (ix4 e 0 r k) - h (ix2 e (Fin.ofNat 32 k'))))) 31 p) :
    (result (F := Ideal) x h w1 b1 w2 b2 (ix5 e o d r k) : EReal)
      = if p.2 = BitVec.ofNat 32 d.val then
          second (b2 (ix1 o)) (fun i dy dx => w2 (ix4 o i dy dx))
            (fun i => first (b1 (ix1 i)) (fun dy dx => w1 (ix4 i 0 dy dx)) fun r k => x (ix4 e 0 r k)) r k
        else 0 := by
  have hex : ∀ (e : Fin 2) (r k : Fin 224), ∃ n : ℕ, n ≤ 31 ∧ nearest (F := Ideal) x h (ix3 e r k) = BitVec.ofNat 32 n := by
    intro e r k
    obtain ⟨q, ⟨⟨m, hm, hq⟩, _⟩, hn⟩ := Nearest.nearest_least x h e r k
    exact ⟨m, hm, by rw [hn, hq]; rfl⟩
  choose n hn using hex
  have hr := OneHot.spread_oneHot (biasRelu (sum2 (biasRelu (sum1 x w1) b1) w2) b2) (nearest (F := Ideal) x h) n hn e o d r k
  refine hr.trans ?_
  obtain ⟨q, hq, hqn⟩ := Nearest.nearest_least x h e r k
  have hpq : q = p := Cert.Least.IsLeast.unique hq hp
  rw [hpq, (hn e r k).2] at hqn
  have h31 := (hn e r k).1
  have hiff : n e r k = d.val ↔ p.2 = BitVec.ofNat 32 d.val := by
    rw [← hqn]
    constructor
    · intro h; rw [h]
    · intro h
      have := congrArg BitVec.toNat h
      rw [BitVec.toNat_ofNat, BitVec.toNat_ofNat, Nat.mod_eq_of_lt (by omega), Nat.mod_eq_of_lt (by omega)] at this
      exact this
  have hv : (biasRelu (F := Ideal) (sum2 (biasRelu (sum1 x w1) b1) w2) b2 (ix4 e o r k) : EReal)
      = second (b2 (ix1 o)) (fun i dy dx => w2 (ix4 o i dy dx))
            (fun i => first (b1 (ix1 i)) (fun dy dx => w1 (ix4 i 0 dy dx)) fun r k => x (ix4 e 0 r k)) r k := by
    rw [Conv.layer2_at]
    congr 1
    funext i r k
    exact Conv.layer1_at x w1 b1 e i r k
  rw [hv]
  exact if_congr hiff rfl rfl

end Cert.ReferenceIdeal.Whole
-- ==== Proof.Equation.lean ====
module

public import proofs.«01_k».proof.Proof.KernelResult
public import proofs.«01_k».proof.Proof.RefResult

/-! # The kernel's result is the reference's

Over the extended reals. -/

@[expose] public section

set_option maxRecDepth 16384

noncomputable section

namespace Cert.Equation

open Idealize.ShloMosaic Cert.Least

/-- Both results, of the same arguments, are equal. -/
theorem results_eq (x : FVec Ideal Cert.KernelIdeal.S2x1x224x224 .f32) (h : FVec Ideal Cert.KernelIdeal.S2x32 .f32)
    (w1 : FVec Ideal Cert.KernelIdeal.S16x1x3x3 .f32) (b1 : FVec Ideal Cert.KernelIdeal.S16 .f32)
    (w2 : FVec Ideal Cert.KernelIdeal.S16x16x3x3 .f32) (b2 : FVec Ideal Cert.KernelIdeal.S16 .f32) :
    Cert.ReferenceIdeal.Line.result (F := Ideal) x h w1 b1 w2 b2
      = Cert.KernelIdeal.Planes.filled (F := Ideal) (Cert.KernelIdeal.Body.nearMap x h)
          (Cert.KernelIdeal.Body.featMap x w1 b1 w2 b2) := by
  funext j
  rw [eq_ix5 j]
  obtain ⟨p, hp, hk⟩ := Cert.KernelIdeal.Whole.result_at x h w1 b1 w2 b2 (j 0) (j 1) (j 2) (j 3) (j 4)
  exact (Cert.ReferenceIdeal.Whole.result_at x h w1 b1 w2 b2 (j 0) (j 1) (j 2) (j 3) (j 4) p hp).trans hk.symm

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, keeps its arguments, and ends with every counter at zero: it has no counter. -/
theorem frame_reference : Cert.quiescent_ReferenceIdeal (hReferenceIdeal := Cert.ReferenceIdeal.Gen.facts) :=
  fun m g _ => (θ_run _ _ _).mono (fun _ h => ⟨fun c => (h c).2, funext fun p => nomatch p⟩)
    (Cert.ReferenceIdeal.Line.run (F := Ideal) m g)

/-- The kernel and the reference, from the same arguments, end with equal results. -/
theorem algebraic : Cert.algebraic_KernelIdeal_ReferenceIdeal (hKernelIdeal := Cert.KernelIdeal.Gen.facts)
    (hReferenceIdeal := Cert.ReferenceIdeal.Gen.facts) := fun m g m' g' _ hargs => by
  refine ⟨_, Cert.KernelIdeal.Value.run_blocks m g, ?_⟩
  refine (θ_run _ _ _).mono (fun r h c => ⟨?_, (h c).2⟩) (Cert.ReferenceIdeal.Line.run (F := Ideal) m' g')
  obtain ⟨h0, h1, h2, h3, h4, h5⟩ := hargs c
  refine (h c).1.trans ?_
  rw [h0, h1, h2, h3, h4, h5]
  exact (Cert.Equation.results_eq _ _ _ _ _ _).trans (Cert.KernelIdeal.Planes.final m c).symm

theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  frame_reference,
  trivial,
  algebraic⟩

end Cert.Proof

end
